-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_top_gates_differ [hKernelIdeal : Cert.KernelIdeal.Facts] [hReferenceIdeal : Cert.ReferenceIdeal.Facts] [hOn_top_gates_differ : Cert.On_top_gates_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2, 4] ![[1], []] c) ((Cert.On_top_gates_differ.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2, 4] ![[1], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_top_gates_differ.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v142) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_top_gates_differ : Cert.On_top_gates_differ.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_top_gates_differ (hKernelIdeal := hKernelIdeal) (hReferenceIdeal := hReferenceIdeal) (hOn_top_gates_differ := hOn_top_gates_differ)
-- ==== On_top_gates_differ.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x3 : Shape := ⟨2, ![512, 3]⟩
abbrev S_ : Shape := ⟨0, ![]⟩
abbrev S512x3x1 : Shape := ⟨3, ![512, 3, 1]⟩
abbrev S1 : Shape := ⟨1, ![1]⟩
abbrev S1x1x1 : Shape := ⟨3, ![1, 1, 1]⟩
abbrev S512x1 : Shape := ⟨2, ![512, 1]⟩

class Facts : Prop where
  slices_S512x4_S512x3_0_0 : S512x4.Slices ![0, 0] S512x3
  bcast_S_S512x3 : S_.BroadcastsInDim S512x3 (![] : Fin 0 → Fin S512x3.rank)
  shapeCasts_S512x3_S512x3x1 : S512x3.ShapeCasts S512x3x1
  bcast_S_S512x3x1 : S_.BroadcastsInDim S512x3x1 (![] : Fin 0 → Fin S512x3x1.rank)
  bcast_S1_S1x1x1_2 : S1.BroadcastsInDim S1x1x1 (![2] : Fin 1 → Fin S1x1x1.rank)
  bcast_S1x1x1_S512x3x1_0_1_2 : S1x1x1.BroadcastsInDim S512x3x1 (![0, 1, 2] : Fin 3 → Fin S512x3x1.rank)
  reducesTo_S512x3x1_S512x3_d2 : S512x3x1.ReducesTo [2] S512x3
  h_S_ : 0 < S_.numel
  slices_S512x3_S512x1_0_0 : S512x3.Slices ![0, 0] S512x1
  slices_S512x3_S512x1_0_1 : S512x3.Slices ![0, 1] S512x1
  slices_S512x3_S512x1_0_2 : S512x3.Slices ![0, 2] S512x1
  bcast_S_S512x1 : S_.BroadcastsInDim S512x1 (![] : Fin 0 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []
  gather_S512x4_S512x3x1_S512x3_n_1_0_0_1_2_11_wf : GatherDims.WF S512x4 S512x3x1 S512x3 [] [1] [0] [1] [0] 2 ![1, 1]

variable [Facts]

variable {F : FTy → Type} [FloatOps F]
def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x4_S512x3x1_S512x3_n_1_0_0_1_2_11 : GatherDims S512x4 S512x3x1 S512x3 where
  offsetDims := []
  collapsedSliceDims := [1]
  operandBatchingDims := [0]
  startIndicesBatchingDims := [0]
  startIndexMap := [1]
  indexVectorDim := 2
  sliceSizes := ![1, 1]
  wf := gather_S512x4_S512x3x1_S512x3_n_1_0_0_1_2_11_wf

def fn_argsort {F : FTy → Type} [FloatOps F] (arg0 : FVec F S512x4 .f32) : IVec S512x4 32 :=
  let v0 : IVec S512x4 32 := iotaInDim S512x4 32 1
  let v1_0 : FVec F S512x4 .f32 := (fun x y => (Host.sort2 S512x4 1 comparator_f32_i32_d1 x y).1) arg0 v0
  let v1_1 : IVec S512x4 32 := (fun x y => (Host.sort2 S512x4 1 comparator_f32_i32_d1 x y).2) arg0 v0
  v1_1

def fn_take_along_axis {F : FTy → Type} [FloatOps F] (arg0 : FVec F S512x4 .f32) (arg1 : IVec S512x3 32) : FVec F S512x3 .f32 :=
  let c : IVec S_ 32 := constantI S_ 32 0#32
  let v0 : IVec S512x3 32 := broadcastInDim S512x3 ![] bcast_S_S512x3 c
  let v1 : IVec S512x3 1 := cmpi .slt arg1 v0
  let c_0 : IVec S_ 32 := constantI S_ 32 4#32
  let v2 : IVec S512x3 32 := broadcastInDim S512x3 ![] bcast_S_S512x3 c_0
  let v3 : IVec S512x3 32 := addi arg1 v2
  let v4 : IVec S512x3 32 := select v1 v3 arg1
  let v5 : IVec S512x3x1 32 := shapeCast S512x3x1 v4 shapeCasts_S512x3_S512x3x1
  let c_1 : IVec S1 32 := constantI S1 32 3#32
  let c_2 : IVec S_ 32 := constantI S_ 32 0#32
  let v6 : IVec S512x3x1 32 := broadcastInDim S512x3x1 ![] bcast_S_S512x3x1 c_2
  let v7 : IVec S512x3x1 1 := cmpi .sge v5 v6
  let v8 : IVec S1x1x1 32 := broadcastInDim S1x1x1 ![2] bcast_S1_S1x1x1_2 c_1
  let v9 : IVec S512x3x1 32 := broadcastInDim S512x3x1 ![0, 1, 2] bcast_S1x1x1_S512x3x1_0_1_2 v8
  let v10 : IVec S512x3x1 1 := cmpi .sle v5 v9
  let v11 : IVec S512x3x1 1 := andi v7 v10
  let c_3 : IVec S_ 1 := constantI S_ 1 1#1
  let v12 : IVec S512x3 1 := (fun x v => Host.reduce IntOp.andi x v reducesTo_S512x3x1_S512x3_d2 h_S_) v11 c_3
  let v13 : FVec F S512x3 .f32 := (fun x i => Host.gather gather_S512x4_S512x3x1_S512x3_n_1_0_0_1_2_11 x i) arg0 v5
  let cst : FVec F S_ .f32 := constant S_ .f32 0x7FC00000#32
  let v14 : FVec F S512x3 .f32 := broadcastInDim S512x3 ![] bcast_S_S512x3 cst
  let v15 : FVec F S512x3 .f32 := select v12 v13 v14
  v15

def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n none l r) main_arg0 main_arg1
  let main_v1 : FVec F S512x4 .f32 := Host.negf main_v0
  let main_v2 : IVec S512x4 32 := fn_argsort (F := F) main_v1
  let main_v3 : IVec S512x3 32 := (extractStridedSlice S512x3 ![0, 0] · slices_S512x4_S512x3_0_0) main_v2
  let main_v4 : FVec F S512x3 .f32 := fn_take_along_axis (F := F) main_v0 main_v3
  let main_v5 : FVec F S512x1 .f32 := (extractStridedSlice S512x1 ![0, 0] · slices_S512x3_S512x1_0_0) main_v4
  let main_v6 : FVec F S512x1 .f32 := (extractStridedSlice S512x1 ![0, 1] · slices_S512x3_S512x1_0_1) main_v4
  let main_v7 : FVec F S512x1 .f32 := (extractStridedSlice S512x1 ![0, 2] · slices_S512x3_S512x1_0_2) main_v4
  let main_cst : FVec F S_ .f32 := constant S_ .f32 0x7F800000#32
  let main_v8 : FVec F S512x1 .f32 := broadcastInDim S512x1 ![] bcast_S_S512x1 main_cst
  let main_v9 : IVec S512x1 1 := cmpf .olt main_v5 main_v8
  let main_v10 : IVec S512x1 1 := cmpf .olt main_v6 main_v5
  let main_v11 : IVec S512x1 1 := andi main_v9 main_v10
  let main_v12 : IVec S512x1 1 := cmpf .olt main_v7 main_v6
  let main_v13 : IVec S512x1 1 := andi main_v11 main_v12
  let main_v14 : IVec S512x512 1 := broadcastInDim S512x512 ![0, 1] bcast_S512x1_S512x512_0_1 main_v13
  main_v14
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S256x2 : Shape := ⟨2, ![256, 2]⟩
abbrev S4 : Shape := ⟨1, ![4]⟩
abbrev S2 : Shape := ⟨1, ![2]⟩
abbrev S1 : Shape := ⟨1, ![1]⟩
abbrev S_ : Shape := ⟨0, ![]⟩
abbrev S256x1 : Shape := ⟨2, ![256, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S256x512, .f32⟩
  | .local _ .vmem, ⟨3, _⟩ => ⟨S256x512, .bf16⟩
  | .local _ .vmem, ⟨4, _⟩ => ⟨S256x512, .bf16⟩
  | .local _ .vmem, ⟨5, _⟩ => ⟨S256x2, .f32⟩
  | .local _ .vmem, ⟨6, _⟩ => ⟨S256x2, .f32⟩
  | .local _ .vmem, ⟨7, _⟩ => ⟨S512x2, .f32⟩
  | .local _ .vmem, ⟨8, _⟩ => ⟨S256x512, .bf16⟩
  | .local _ .vmem, ⟨9, _⟩ => ⟨S256x512, .bf16⟩
  | .local _ .vmem, ⟨10, _⟩ => ⟨S2x512x1024, .f32⟩
  | .local _ .vmem, ⟨11, _⟩ => ⟨S2x1024x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v15 : BitVec 32 := Scalar.muli v2 c8_i32_5
  let v16 : BitVec 32 := Scalar.addi c0_i32_6 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_7 : BitVec 32 := 4#32
  let v17 : BitVec 32 := Scalar.muli v9 c4_i32_7
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v19 : BitVec 32 := Scalar.muli v8 c1_i32_8
  let v20 : BitVec 32 := Scalar.addi v18 v19
  v20.toNat
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v21 : BitVec 32 := Scalar.muli v2 c8_i32_12
  let v22 : BitVec 32 := Scalar.addi c0_i32_13 v21
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_14 : BitVec 32 := 4#32
  let v23 : BitVec 32 := Scalar.muli v9 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v25 : BitVec 32 := Scalar.muli v8 c1_i32_15
  let v26 : BitVec 32 := Scalar.addi v24 v25
  v26.toNat
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v37 : BitVec 32 := Scalar.muli v2 c8_i32_21
  let v38 : BitVec 32 := Scalar.addi c0_i32_22 v37
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_23 : BitVec 32 := 4#32
  let v39 : BitVec 32 := Scalar.muli v9 c4_i32_23
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v41 : BitVec 32 := Scalar.muli v8 c1_i32_24
  let v42 : BitVec 32 := Scalar.addi v40 v41
  v42.toNat
def k0_dev4 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v120 : BitVec 32 := Scalar.muli v2 c8_i32_55
  let v121 : BitVec 32 := Scalar.addi c0_i32_56 v120
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_57 : BitVec 32 := 4#32
  let v122 : BitVec 32 := Scalar.muli v9 c4_i32_57
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v124 : BitVec 32 := Scalar.muli v8 c1_i32_58
  let v125 : BitVec 32 := Scalar.addi v123 v124
  v125.toNat
def k0_dev5 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v204 : BitVec 32 := Scalar.muli v2 c8_i32_114
  let v205 : BitVec 32 := Scalar.addi c0_i32_115 v204
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_116 : BitVec 32 := 4#32
  let v206 : BitVec 32 := Scalar.muli v9 c4_i32_116
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v208 : BitVec 32 := Scalar.muli v8 c1_i32_117
  let v209 : BitVec 32 := Scalar.addi v207 v208
  v209.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 221
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x4, .f32⟩
  | 6 => ⟨S512x4, .i32⟩
  | 7 => ⟨S512x4, .f32⟩
  | 8 => ⟨S512x4, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S_, .f32⟩
  | 44 => ⟨S512x512, .f32⟩
  | 45 => ⟨S512x1, .i32⟩
  | 46 => ⟨S_, .i32⟩
  | 47 => ⟨S512x1, .i32⟩
  | 48 => ⟨S512x1, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x512, .f32⟩
  | 56 => ⟨S1024x512, .f32⟩
  | 57 => ⟨S512x512, .f32⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S1x512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S_, .i32⟩
  | 91 => ⟨S512x1, .i32⟩
  | 92 => ⟨S512x1, .i1⟩
  | 93 => ⟨S1x512x1024, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S1x1024x512, .f32⟩
  | 100 => ⟨S1024x512, .f32⟩
  | 101 => ⟨S512x512, .f32⟩
  | 102 => ⟨S512x1, .f32⟩
  | 103 => ⟨S512x512, .f32⟩
  | 104 => ⟨S512x512, .f32⟩
  | 105 => ⟨S_, .f32⟩
  | 106 => ⟨S_, .f32⟩
  | 107 => ⟨S512x512, .i1⟩
  | 108 => ⟨S512x512, .f32⟩
  | 109 => ⟨S512x512, .f32⟩
  | 110 => ⟨S512x512, .f32⟩
  | 111 => ⟨S512x1, .i32⟩
  | 112 => ⟨S_, .i32⟩
  | 113 => ⟨S512x1, .i32⟩
  | 114 => ⟨S512x1, .i1⟩
  | 115 => ⟨S1x512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x512, .f32⟩
  | 122 => ⟨S1024x512, .f32⟩
  | 123 => ⟨S512x512, .f32⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S1x512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S1x1024x512, .f32⟩
  | 16 => ⟨S1024x512, .f32⟩
  | 17 => ⟨S512x512, .f32⟩
  | 18 => ⟨S512x1, .f32⟩
  | 19 => ⟨S512x512, .f32⟩
  | 20 => ⟨S512x512, .f32⟩
  | 21 => ⟨S_, .f32⟩
  | 22 => ⟨S_, .f32⟩
  | 23 => ⟨S512x512, .i1⟩
  | 24 => ⟨S512x512, .f32⟩
  | 25 => ⟨S512x512, .f32⟩
  | 26 => ⟨S512x512, .f32⟩
  | 27 => ⟨S512x1, .i32⟩
  | 28 => ⟨S_, .i32⟩
  | 29 => ⟨S512x1, .i32⟩
  | 30 => ⟨S512x1, .i1⟩
  | 31 => ⟨S1x512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x512, .f32⟩
  | 38 => ⟨S1024x512, .f32⟩
  | 39 => ⟨S512x512, .f32⟩
  | 40 => ⟨S512x1, .f32⟩
  | 41 => ⟨S512x512, .f32⟩
  | 42 => ⟨S512x512, .f32⟩
  | 43 => ⟨S_, .f32⟩
  | 44 => ⟨S_, .f32⟩
  | 45 => ⟨S512x512, .i1⟩
  | 46 => ⟨S512x512, .f32⟩
  | 47 => ⟨S512x512, .f32⟩
  | 48 => ⟨S512x512, .f32⟩
  | 49 => ⟨S512x1, .i32⟩
  | 50 => ⟨S_, .i32⟩
  | 51 => ⟨S512x1, .i32⟩
  | 52 => ⟨S512x1, .i1⟩
  | 53 => ⟨S1x512x1024, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S1x1024x512, .f32⟩
  | 60 => ⟨S1024x512, .f32⟩
  | 61 => ⟨S512x512, .f32⟩
  | 62 => ⟨S512x1, .f32⟩
  | 63 => ⟨S512x512, .f32⟩
  | 64 => ⟨S512x512, .f32⟩
  | 65 => ⟨S_, .f32⟩
  | 66 => ⟨S_, .f32⟩
  | 67 => ⟨S512x512, .i1⟩
  | 68 => ⟨S512x512, .f32⟩
  | 69 => ⟨S512x512, .f32⟩
  | 70 => ⟨S512x512, .f32⟩
  | 71 => ⟨S512x1, .i32⟩
  | 72 => ⟨S_, .i32⟩
  | 73 => ⟨S512x1, .i32⟩
  | 74 => ⟨S512x1, .i1⟩
  | 75 => ⟨S1x512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x512, .f32⟩
  | 82 => ⟨S1024x512, .f32⟩
  | 83 => ⟨S512x512, .f32⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_16 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_18 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_20 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_21 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_22 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_23 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩

abbrev nD : Nat := 1
abbrev τ : Topo := Topo.v7x

variable {F : FTy → Type} [FloatOps F]
-- ==== Proof.KernelIdeal.Protocol.lean ====
/-
# The exchange between a device and its peer: cells, rounds, levels

The mesh has axes x, y, z of sizes 2, 2, 4; device `c` sits at `(c / 8, c / 4 % 2, c % 4)`. Every device talks
to one other device, its `peer`, whose coordinate on y is the other one. Eleven semaphores of a device take part:

* cell 0, the barrier semaphore: the peer adds one unit when it has entered, and with it hands over its four
  landing buffers;
* cells 1 to 4, the send semaphores: of the router block, the rounded rows of `x`, the two weight columns, and the
  partial sums; each gives back the share of the source that was lent to the transfer;
* cells 5 to 8, the receive semaphores of the same four transfers: each gives the landing buffer at what the peer
  sent;
* cells 9 and 10: the two copies of the expert weights into VMEM.

Each cell has one round with one duty. The payload of a duty says what its landing hands over, contents included,
so that the contents of a device's result follow from the run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: one copy of the rounds for the pipeline's cells, one for the exchange's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The state at launch: any memory, every counter at zero, any generator registers. -/
def s₀ : MemSt nD τ sig (Elt F) := ⟨m, fun _ => 0, ρ⟩

/-! ## The peer -/

set_option backward.proofsInPublic true in
/-- The device with the other coordinate on y. -/
def peer (c : Dev nD) : Dev nD :=
  ⟨(8 * (c.val / 8) + (c.val % 4) + 4) - 4 * ((c.val / 4) % 2), by revert c; decide⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

/-! ## The cells -/

abbrev barS : Sem sig := (SemArray.scalar (sig.barrier 0 rfl) : Sems sig S_).sem
abbrev sS0 : DmaSem sig := ((cc0_scratch9.slice (Rect.unit (s := S4) ![0] S1.size inb_S4_S1_0)).squeeze S_ squeezes_S1_S_).sem
abbrev sS1 : DmaSem sig := ((cc0_scratch9.slice (Rect.unit (s := S4) ![1] S1.size inb_S4_S1_1)).squeeze S_ squeezes_S1_S_).sem
abbrev sS2 : DmaSem sig := ((cc0_scratch9.slice (Rect.unit (s := S4) ![2] S1.size inb_S4_S1_2)).squeeze S_ squeezes_S1_S_).sem
abbrev sS3 : DmaSem sig := ((cc0_scratch9.slice (Rect.unit (s := S4) ![3] S1.size inb_S4_S1_3)).squeeze S_ squeezes_S1_S_).sem
abbrev vS0 : DmaSem sig := ((cc0_scratch10.slice (Rect.unit (s := S4) ![0] S1.size inb_S4_S1_0)).squeeze S_ squeezes_S1_S_).sem
abbrev vS1 : DmaSem sig := ((cc0_scratch10.slice (Rect.unit (s := S4) ![1] S1.size inb_S4_S1_1)).squeeze S_ squeezes_S1_S_).sem
abbrev vS2 : DmaSem sig := ((cc0_scratch10.slice (Rect.unit (s := S4) ![2] S1.size inb_S4_S1_2)).squeeze S_ squeezes_S1_S_).sem
abbrev vS3 : DmaSem sig := ((cc0_scratch10.slice (Rect.unit (s := S4) ![3] S1.size inb_S4_S1_3)).squeeze S_ squeezes_S1_S_).sem
abbrev cS0 : DmaSem sig := ((cc0_scratch11.slice (Rect.unit (s := S2) ![0] S1.size inb_S2_S1_0)).squeeze S_ squeezes_S1_S_).sem
abbrev cS1 : DmaSem sig := ((cc0_scratch11.slice (Rect.unit (s := S2) ![1] S1.size inb_S2_S1_1)).squeeze S_ squeezes_S1_S_).sem

/-- The ten scoped semaphores, as the launch lists them. -/
abbrev osem : Fin 10 → SemLoc sig := fun
  | 0 => .dma sS0 | 1 => .dma sS1 | 2 => .dma sS2 | 3 => .dma sS3
  | 4 => .dma vS0 | 5 => .dma vS1 | 6 => .dma vS2 | 7 => .dma vS3
  | 8 => .dma cS0 | 9 => .dma cS1

/-- All eleven: the barrier semaphore, then the scoped ones. -/
abbrev csem : Fin 11 → SemLoc sig := fun
  | 0 => .reg barS
  | 1 => .dma sS0 | 2 => .dma sS1 | 3 => .dma sS2 | 4 => .dma sS3
  | 5 => .dma vS0 | 6 => .dma vS1 | 7 => .dma vS2 | 8 => .dma vS3
  | 9 => .dma cS0 | 10 => .dma cS1

abbrev kcell (ck : Dev nD × Fin 11) : GSem nD τ sig := ((ck.1 : Thread nD τ), csem ck.2)

theorem csem_injective : Function.Injective csem := by decide

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Which of the eleven a semaphore is, if one. -/
def slot (sm : SemLoc sig) : Option (Fin 11) := (List.finRange 11).find? fun k => decide (csem k = sm)

theorem slot_csem (k : Fin 11) : slot (csem k) = some k := by revert k; decide

/-! ## Contents -/

/-- The device's rows of `x` and its columns of the router, as the pipeline stages them; its experts' weights. -/
def xs (c : Dev nD) : (cc0_stg0_0 : Ref sig .tc).ty.Contents (Elt F) :=
  (win0_0.blk (0 : Fin 1)).view.read (Elt F) ((s₀ m ρ).mem ((c : Thread nD τ).loc main_arg0))
def rs (c : Dev nD) : (cc0_stg1_0 : Ref sig .tc).ty.Contents (Elt F) :=
  (win0_1.blk (0 : Fin 1)).view.read (Elt F) ((s₀ m ρ).mem ((c : Thread nD τ).loc main_arg1))
def w1 (c : Dev nD) : (cc0_scratch7 : Ref sig .tc).ty.Contents (Elt F) := (s₀ m ρ).mem ((c : Thread nD τ).loc main_arg2)
def w2 (c : Dev nD) : (cc0_scratch8 : Ref sig .tc).ty.Contents (Elt F) := (s₀ m ρ).mem ((c : Thread nD τ).loc main_arg3)

/-- The rows of `x` as sent: rounded to bf16. -/
def xb (c : Dev nD) : (cc0_scratch0 : Ref sig .tc).ty.Contents (Elt F) := k0_pay2 (xs m ρ c)

/-- The device's rows of `x` and their products with its own router columns. -/
abbrev xv (c : Dev nD) : FVec F S256x512 .f32 := k0_pay3 (xs m ρ c)
abbrev g01 (c : Dev nD) : FVec F S256x2 .f32 := k0_pay4 (xs m ρ c) (rs m ρ c)

/-- The routing weights of the device's rows: for its own two experts, and the two columns it sends for the peer's. -/
abbrev wA (c : Dev nD) : FVec F S256x1 .f32 := k0_pay13 (xv m ρ c) (g01 m ρ c) (rs m ρ (peer c))
abbrev wB (c : Dev nD) : FVec F S256x1 .f32 := k0_pay14 (xv m ρ c) (g01 m ρ c) (rs m ρ (peer c))
abbrev wC (c : Dev nD) : FVec F S256x1 .f32 := k0_pay15 (xv m ρ c) (g01 m ρ c) (rs m ρ (peer c))
abbrev wD (c : Dev nD) : FVec F S256x1 .f32 :=
  k0_pay16 (k0_pay9 (xv m ρ c) (rs m ρ (peer c))) (k0_pay10 (xv m ρ c) (g01 m ρ c) (rs m ρ (peer c)))
    (k0_pay11 (xv m ρ c) (g01 m ρ c) (rs m ρ (peer c))) (k0_pay12 (xv m ρ c) (g01 m ρ c) (rs m ρ (peer c)))

/-- The one column of an index into two columns. -/
def oneCol (i : S256x2.Idx) : S256x1.Idx := fun
  | ⟨0, _⟩ => i 0
  | ⟨1, _⟩ => (0 : Fin 1)

/-- The two weight columns as sent. -/
def wv (c : Dev nD) : (cc0_scratch2 : Ref sig .tc).ty.Contents (Elt F) :=
  fun i => if (i 1).val = 0 then wC m ρ c (oneCol i) else wD m ρ c (oneCol i)

abbrev rW1a : Rect S2x512x1024 := Rect.unit (s := S2x512x1024) ![0, 0, 0] S1x512x1024.size inb_S2x512x1024_S1x512x1024_0_0_0
abbrev rW1b : Rect S2x512x1024 := Rect.unit (s := S2x512x1024) ![1, 0, 0] S1x512x1024.size inb_S2x512x1024_S1x512x1024_1_0_0
abbrev rW2a : Rect S2x1024x512 := Rect.unit (s := S2x1024x512) ![0, 0, 0] S1x1024x512.size inb_S2x1024x512_S1x1024x512_0_0_0
abbrev rW2b : Rect S2x1024x512 := Rect.unit (s := S2x1024x512) ![1, 0, 0] S1x1024x512.size inb_S2x1024x512_S1x1024x512_1_0_0
abbrev rC0 : Rect S256x2 := Rect.unit (s := S256x2) ![0, 0] S256x1.size inb_S256x2_S256x1_0_0
abbrev rC1 : Rect S256x2 := Rect.unit (s := S256x2) ![0, 1] S256x1.size inb_S256x2_S256x1_0_1

/-- The two experts' matrices as loaded, and as the multiplications take them. -/
abbrev l1a (c : Dev nD) : Vec F S1x512x1024 .f32 := (Memref.whole cc0_scratch7 : Memref sig .tc _ _ _).view.readAt (Elt F) rW1a.toLoadRect (w1 m ρ c)
abbrev l1b (c : Dev nD) : Vec F S1x512x1024 .f32 := (Memref.whole cc0_scratch7 : Memref sig .tc _ _ _).view.readAt (Elt F) rW1b.toLoadRect (w1 m ρ c)
abbrev l2a (c : Dev nD) : Vec F S1x1024x512 .f32 := (Memref.whole cc0_scratch8 : Memref sig .tc _ _ _).view.readAt (Elt F) rW2a.toLoadRect (w2 m ρ c)
abbrev l2b (c : Dev nD) : Vec F S1x1024x512 .f32 := (Memref.whole cc0_scratch8 : Memref sig .tc _ _ _).view.readAt (Elt F) rW2b.toLoadRect (w2 m ρ c)
abbrev e1a (c : Dev nD) : FVec F S512x1024 .bf16 := k0_pay17 (l1a m ρ c)
abbrev e1b (c : Dev nD) : FVec F S512x1024 .bf16 := k0_pay18 (l1b m ρ c)
abbrev e2a (c : Dev nD) : FVec F S1024x512 .bf16 := k0_pay19 (l2a m ρ c)
abbrev e2b (c : Dev nD) : FVec F S1024x512 .bf16 := k0_pay20 (l2b m ρ c)

/-- The device's own rows through its own two experts, weighted. -/
abbrev mine (c : Dev nD) : FVec F S256x512 .f32 :=
  k0_pay21 (wA m ρ c) (wB m ρ c) (e1a m ρ c) (e1b m ρ c) (e2a m ρ c) (l2b m ρ c) (xb m ρ c)

/-- The peer's weight columns, read a column at a time. -/
abbrev lw0 (c : Dev nD) : Vec F S256x1 .f32 := (Memref.whole cc0_scratch3 : Memref sig .tc _ _ _).view.readAt (Elt F) rC0.toLoadRect (wv m ρ (peer c))
abbrev lw1 (c : Dev nD) : Vec F S256x1 .f32 := (Memref.whole cc0_scratch3 : Memref sig .tc _ _ _).view.readAt (Elt F) rC1.toLoadRect (wv m ρ (peer c))

/-- The peer's rows through the device's own two experts, weighted by the peer's columns: what is sent back. -/
def pv (c : Dev nD) : (cc0_scratch5 : Ref sig .tc).ty.Contents (Elt F) :=
  k0_pay23 (e1b m ρ c) (e2b m ρ c) (xb m ρ (peer c)) (k0_pay22 (e1a m ρ c) (e2a m ρ c) (xb m ρ (peer c)))
    (constant S256x1024 .f32 0x00000000#32) (lw0 m ρ c) (lw1 m ρ c)

/-- The device's rows of the result. -/
def outAt (c : Dev nD) : (cc0_stg2_0 : Ref sig .tc).ty.Contents (Elt F) := k0_pay1 (mine m ρ c) (pv m ρ (peer c))

/-! ## The schedule -/

/-- A whole buffer of device `c` at contents `f`, at share `q`. -/
abbrev pt (c : Dev nD) (b : Ref sig .tc) (q : PosShare TreeShare) (f : b.ty.Contents (Elt F)) : sProp 𝕄 :=
  ((c : Thread nD τ).loc b) ↦{q} f

/-- The four landing buffers of device `c`, at any contents. -/
def landing (c : Dev nD) : sProp 𝕄 :=
  iprop((∃ f, pt c cc0_scratch4 fullShare f) ∗ (∃ f, pt c cc0_scratch1 fullShare f)
    ∗ (∃ f, pt c cc0_scratch3 fullShare f) ∗ (∃ f, pt c cc0_scratch6 fullShare f))

instance landing_storable (c : Dev nD) : BI.Storable (upEmb : UEmb _ 𝕄) (landing (F := F) c) := by
  unfold landing; infer_instance

/-- What the one duty of each cell hands over. -/
def pay (c : Dev nD) : Fin 11 → sProp 𝕄 := fun
  | 0 => landing (peer c)
  | 1 => pt c cc0_stg1_0 fullShare.right (rs m ρ c)
  | 2 => pt c cc0_scratch0 fullShare.right (xb m ρ c)
  | 3 => pt c cc0_scratch2 fullShare (wv m ρ c)
  | 4 => pt c cc0_scratch5 fullShare (pv m ρ c)
  | 5 => pt c cc0_scratch4 fullShare (rs m ρ (peer c))
  | 6 => pt c cc0_scratch1 fullShare (xb m ρ (peer c))
  | 7 => pt c cc0_scratch3 fullShare (wv m ρ (peer c))
  | 8 => pt c cc0_scratch6 fullShare (pv m ρ (peer c))
  | 9 => iprop(pt c cc0_scratch7 fullShare (w1 m ρ c) ∗ pt c main_arg2 fullShare (w1 m ρ c))
  | 10 => iprop(pt c cc0_scratch8 fullShare (w2 m ρ c) ∗ pt c main_arg3 fullShare (w2 m ρ c))

instance pay_storable (c : Dev nD) (k : Fin 11) : BI.Storable (upEmb : UEmb _ 𝕄) (pay (F := F) m ρ c k) := by
  fin_cases k <;> (dsimp only [pay]; infer_instance)

/-- What each cell's duty adds. -/
def amt : Fin 11 → ℕ := fun
  | 0 => 1
  | 1 => (Memref.whole cc0_stg1_0 : Memref sig .tc _ _ _).view.dmaCredit
  | 2 => (Memref.whole cc0_scratch0 : Memref sig .tc _ _ _).view.dmaCredit
  | 3 => (Memref.whole cc0_scratch2 : Memref sig .tc _ _ _).view.dmaCredit
  | 4 => (Memref.whole cc0_scratch5 : Memref sig .tc _ _ _).view.dmaCredit
  | 5 => (Memref.whole cc0_scratch4 : Memref sig .tc _ _ _).view.dmaCredit
  | 6 => (Memref.whole cc0_scratch1 : Memref sig .tc _ _ _).view.dmaCredit
  | 7 => (Memref.whole cc0_scratch3 : Memref sig .tc _ _ _).view.dmaCredit
  | 8 => (Memref.whole cc0_scratch6 : Memref sig .tc _ _ _).view.dmaCredit
  | 9 => (Memref.whole cc0_scratch7 : Memref sig .tc _ _ _).view.dmaCredit
  | 10 => (Memref.whole cc0_scratch8 : Memref sig .tc _ _ _).view.dmaCredit

theorem amt_pos (k : Fin 11) : 0 < amt k := by
  fin_cases k <;> first | exact Nat.one_pos | exact View.dmaCredit_pos _ (by decide)

/-- One round on each of the eleven cells of every TensorCore, one duty in it. -/
def sched : Rounds.Schedule (GSem nD τ sig) Unit 𝕄 where
  duties g r := if r = 0 ∧ g.1.2 = .tc ∧ (slot g.2).isSome then {()} else ∅
  unitless _ := False
  amount g _ _ := (slot g.2).elim 1 amt
  payload g _ _ := (slot g.2).elim iprop(emp) (pay m ρ g.1.1)
  amount_pos g _ _ _ := by
    cases h : slot g.2 with
    | none => exact Nat.one_pos
    | some k => exact amt_pos k

instance sched_storable (g : GSem nD τ sig) (r : ℕ) (d : Unit) :
    BI.Storable (upEmb : UEmb _ 𝕄) ((sched (F := F) m ρ).payload g r d) := by
  show BI.Storable upEmb ((slot g.2).elim iprop(emp) (pay m ρ g.1.1))
  cases slot g.2 with
  | none => show BI.Storable upEmb iprop(emp); infer_instance
  | some k => show BI.Storable upEmb (pay m ρ g.1.1 k); infer_instance

section Sched
variable (c : Dev nD) (k : Fin 11)

theorem duties_cell : (sched (F := F) m ρ).duties (kcell (c, k)) 0 = {()} := by
  dsimp only [sched]; rw [slot_csem]; exact if_pos ⟨rfl, rfl, rfl⟩
theorem mem_duty : () ∈ (sched (F := F) m ρ).duties (kcell (c, k)) 0 := by
  rw [duties_cell]; exact Finset.mem_singleton_self _
theorem duties_later (g : GSem nD τ sig) : ∀ r, 1 ≤ r → (sched (F := F) m ρ).duties g r = ∅ :=
  fun r hr => by dsimp only [sched]; exact if_neg fun h => by omega
theorem amount_cell : (sched (F := F) m ρ).amount (kcell (c, k)) 0 () = amt k := by
  dsimp only [sched]; rw [slot_csem]; rfl
theorem expect_cell : (sched (F := F) m ρ).expect (kcell (c, k)) 0 = amt k := by
  unfold Schedule.expect Schedule.amountOf; rw [duties_cell, Finset.sum_singleton, amount_cell]
theorem payload_cell : (sched (F := F) m ρ).payload (kcell (c, k)) 0 () = pay m ρ c k := by
  dsimp only [sched]; rw [slot_csem]; rfl
theorem rest_cell : bigSep ((sched (F := F) m ρ).duties (kcell (c, k)) 0 \ ∅) (fun d => (sched (F := F) m ρ).payload (kcell (c, k)) 0 d)
    = pay m ρ c k := by
  rw [Finset.sdiff_empty, duties_cell, bigSep_singleton, payload_cell]

end Sched

/-! ## What is owed, and the levels -/

/-- A device owes its peer's barrier cell a unit and its peer's receive cells the four transfers; summed so that each
    payment takes the last summand. -/
def O4 (c : Dev nD) : CellTallies nD τ sig Unit := tallyAt (kcell (peer c, 8)) () (amt 8)
def O3 (c : Dev nD) : CellTallies nD τ sig Unit := O4 c + tallyAt (kcell (peer c, 7)) () (amt 7)
def O2 (c : Dev nD) : CellTallies nD τ sig Unit := O3 c + tallyAt (kcell (peer c, 6)) () (amt 6)
def O1 (c : Dev nD) : CellTallies nD τ sig Unit := O2 c + tallyAt (kcell (peer c, 5)) () (amt 5)
def O₀ (c : Dev nD) : CellTallies nD τ sig Unit := O1 c + tallyAt (kcell (peer c, 0)) () (amt 0)

def L (g : GSem nD τ sig) : Finset Unit := if g.1.2 = .tc then {()} else ∅
/-- The levels: the barrier below the router block's arrival, that below the rows' and the weights', those below the
    partial sums'; everything a device pays itself at the bottom. -/
def lvk : Fin 11 → ℕ := ![1, 0, 0, 0, 0, 2, 3, 3, 4, 0, 0]
def lv (g : GSem nD τ sig) (_ : Unit) : ℕ := (slot g.2).elim 0 lvk

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 11) (u : Unit) : lv (kcell (c, k)) u = lvk k := by
  dsimp only [lv]; rw [slot_csem]; rfl

/-- What is owed is owed to the peer's cells of a list. -/
def OwesOnly (c : Dev nD) (l : List (Fin 11)) (O : CellTallies nD τ sig Unit) : Prop :=
  ∀ g u, 0 < O g u → ∃ j ∈ l, g = kcell (peer c, j)

theorem owesOnly_tally (c : Dev nD) (j : Fin 11) : OwesOnly c [j] (tallyAt (kcell (peer c, j)) () (amt j)) := by
  intro g u h
  rw [tallyAt_apply] at h
  by_cases hg : g = kcell (peer c, j) ∧ u = ()
  · exact ⟨j, List.mem_singleton_self _, hg.1⟩
  · rw [if_neg hg] at h; exact absurd h (Nat.lt_irrefl 0)

theorem owesOnly_add (c : Dev nD) (j : Fin 11) (l : List (Fin 11)) (O : CellTallies nD τ sig Unit) (h : OwesOnly c l O) :
    OwesOnly c (j :: l) (O + tallyAt (kcell (peer c, j)) () (amt j)) := by
  intro g u hg
  rw [Pi.add_apply, Finsupp.add_apply] at hg
  rcases Nat.eq_zero_or_pos (O g u) with h0 | h0
  · rw [h0, Nat.zero_add] at hg
    obtain ⟨i, hi, e⟩ := owesOnly_tally c j g u hg
    exact ⟨i, List.mem_cons.mpr (.inl (List.mem_singleton.mp hi)), e⟩
  · obtain ⟨i, hi, e⟩ := h g u h0
    exact ⟨i, List.mem_cons_of_mem _ hi, e⟩

theorem owesOnly4 (c : Dev nD) : OwesOnly c [8] (O4 c) := owesOnly_tally c 8
theorem owesOnly3 (c : Dev nD) : OwesOnly c [7, 8] (O3 c) := owesOnly_add c 7 _ _ (owesOnly4 c)
theorem owesOnly2 (c : Dev nD) : OwesOnly c [6, 7, 8] (O2 c) := owesOnly_add c 6 _ _ (owesOnly3 c)
theorem owesOnly1 (c : Dev nD) : OwesOnly c [5, 6, 7, 8] (O1 c) := owesOnly_add c 5 _ _ (owesOnly2 c)
theorem owesOnly0 (c : Dev nD) : OwesOnly c [0, 5, 6, 7, 8] (O₀ c) := owesOnly_add c 0 _ _ (owesOnly1 c)

/-- A wait on a cell at level at most `n`, owing only cells above `n`. -/
theorem mayWait_of (c : Dev nD) (sm : SemLoc sig) (n : ℕ) (hsm : lv ((c : Thread nD τ), sm) () ≤ n) (l : List (Fin 11))
    (hl : ∀ j ∈ l, n < lvk j) (O : CellTallies nD τ sig Unit) (hO : OwesOnly c l O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨j, -, rfl⟩ := hO g u hg; exact Finset.mem_singleton_self _)
    (fun p hp => by rw [Finset.mem_singleton.mp hp]; exact hsm)
    (fun g u hg => by obtain ⟨j, hj, rfl⟩ := hO g u hg; rw [lv_cell]; exact hl j hj)

theorem mayWait_cell (c : Dev nD) (k : Fin 11) (l : List (Fin 11)) (hl : ∀ j ∈ l, lvk k < lvk j)
    (O : CellTallies nD τ sig Unit) (hO : OwesOnly c l O) :
    (levAts L lv : sProp 𝕄) ⊢ MayWait (c : Thread nD τ) (csem k) () O :=
  mayWait_of c (csem k) (lvk k) (lv_cell c k ()).le l hl O hO

theorem mayWait_zero (c : Dev nD) (sm : SemLoc sig) : (levAts L lv : sProp 𝕄) ⊢ MayWait (c : Thread nD τ) sm () 0 := by
  rw [MayWait_zero]; iintro -; iempintro

end Cert.KernelIdeal.Run

end
-- ==== Proof.KernelIdeal.Body.lean ====
/-
# The body of a device, one printed part at a time

Each part of the printed body gets one statement: from what it touches, and whatever follows from what it leaves, the
part runs. `sound_body` strings the parts together.
-/
module

public import proofs.«01_k».proof.Proof.KernelIdeal.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 11 → ℕ)

abbrev 𝒱₀ : Variants := Variants.none

/-! ## What every device knows: the cells' invariants, that each is at its round, the levels -/

def records : sProp 𝕄 :=
  iprop((bigSep Finset.univ fun ck => cellInv ER (sched m ρ) (K ck) (kcell ck))
    ∗ (bigSep Finset.univ fun ck => (reached ER (kcell ck) 0 : sProp 𝕄)) ∗ (levAts L lv : sProp 𝕄))

instance records_persistent : BI.Persistent (records (F := F) m ρ K) := by unfold records; infer_instance

theorem inv_at (c : Dev nD) (k : Fin 11) : records m ρ K ⊢ cellInv ER (sched m ρ) (K (c, k)) (kcell (c, k)) := by
  unfold records
  exact BI.Laws.sep_elim_left.trans (bigSep_elim (Φ := fun ck => cellInv ER (sched m ρ) (K ck) (kcell ck)) (Finset.mem_univ (c, k)))

theorem reached_at (c : Dev nD) (k : Fin 11) : records m ρ K ⊢ reached ER (kcell (c, k)) 0 := by
  unfold records
  exact (BI.Laws.sep_elim_right.trans BI.Laws.sep_elim_left).trans
    (bigSep_elim (Φ := fun ck => (reached ER (kcell ck) 0 : sProp 𝕄)) (Finset.mem_univ (c, k)))

theorem mayWait_at (c : Dev nD) (k : Fin 11) (l : List (Fin 11)) (hl : ∀ j ∈ l, lvk k < lvk j)
    (O : CellTallies nD τ sig Unit) (hO : OwesOnly c l O) : records m ρ K ⊢ MayWait (c : Thread nD τ) (csem k) () O := by
  unfold records
  iintro ⟨-, -, H⟩
  iapply (mayWait_cell c k l hl O hO)
  iexact H

/-- What device `c` owes, whatever it has waited for. -/
def ow (c : Dev nD) (O : CellTallies nD τ sig Unit) : sProp 𝕄 := iprop(∃ W : Waits sig Unit, owes (c : Thread nD τ) O W)

/-- The right to fire cell `(c, k)`'s duty, the credits for waiting on it, the owner's place in its rounds. -/
abbrev tok (c : Dev nD) (k : Fin 11) : sProp 𝕄 := dutyTok ER (kcell (c, k)) 0 ()
abbrev crd (c : Dev nD) (k : Fin 11) : sProp 𝕄 := cred (tallyAt (kcell (c, k)) () (amt k))
abbrev atR (c : Dev nD) (k : Fin 11) (r : ℕ) : sProp 𝕄 := atPos ER (kcell (c, k)) r ∅ 0

/-! ## The rules at the cells -/

section Rules

/-- A wait for the whole of one of the device's own cells. -/
theorem wp_wait_cell {α : Type} {Q : α → sProp 𝕄} {k : PUnit → Prog (TpuEff nD τ sig (Elt F) Λ₀ .tc) α}
    (c : Dev nD) (j : Fin 11) {w : TpuEff nD τ sig (Elt F) Λ₀ .tc PUnit}
    (hw : ∀ Kp : PUnit → sProp 𝕄, wpE (defs₀ (F := F)) 𝒱₀ (c : Thread nD τ) none Set.univ w Kp
      = waitSpec (c : Thread nD τ) Set.univ (csem j) (amt j) Kp)
    (l : List (Fin 11)) (hl : ∀ i ∈ l, lvk j < lvk i) (O : CellTallies nD τ sig Unit) (hO : OwesOnly c l O) :
    iprop(records m ρ K ∗ crd c j ∗ ow c O ∗ atR c j 0)
      ⊢ iprop(((ow c O ∗ atR c j 1 ∗ pay m ρ c j) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold ow
  iintro ⟨#HR, Hc, ⟨%W, HO⟩, Hat⟩ Hk
  ihave #HI := (inv_at m ρ K c j) $$ HR
  iapply (Rounds.wp_wait_rest_token 𝒱₀ ER (sched m ρ) (c : Thread nD τ) none (κ := K (c, j)) (sm := csem j) (k' := amt j)
      hw (Set.mem_univ _) () (O := O) (W := W) (R := 0) (m := 0) (T := ∅)
      (by rw [Nat.zero_add]; exact (expect_cell m ρ c j).symm)) $$ [Hc HO Hat]
  · isplitr; · iexact HI
    isplitl [Hc]; · iexact Hc
    isplitl [HO]; · iexact HO
    isplitr; · iapply (mayWait_at m ρ K c j l hl O hO); iexact HR
    iexact Hat
  iintro ⟨HO, Hat, -, Hpay⟩
  iapply Hk
  isplitl [HO]; · iexists _; iexact HO
  isplitl [Hat]; · iexact Hat
  iapply (Entails.of_eq (rest_cell m ρ c j)); iexact Hpay

/-- A transfer to the peer: the lent share of the source goes with the send cell, the landing buffer with the peer's
    receive cell. -/
theorem wp_send_cell {α : Type} {Q : α → sProp 𝕄} {k : PUnit → Prog (TpuEff nD τ sig (Elt F) Λ₀ .tc) α}
    (c n : Dev nD) (hn : n = peer c) (jS jV : Fin 11) {sp sp' : Space} {s : Shape} {e : EltTy}
    {src : Memref sig .tc sp s e} {dst : Memref sig .tc sp' s e}
    {hsc : (dst : Memref sig (Dev.tc n : Thread nD τ).2.kind sp' s e).view.ref.isScScratch = false}
    {hsrc : src.view.WordExact} {hdst : dst.view.WordExact}
    {hsem : DmaTarget.Typed sp (csem jV) (.remote (Dev.tc n : Thread nD τ) dst (csem jS) hsc)}
    {q : PosShare TreeShare} {fs : Buf (Elt F) (src.view.loc (c : Thread nD τ))} {fd : Buf (Elt F) (dst.view.loc (peer c : Thread nD τ))}
    (hN : dst.view.amount (csem jV) = amt jV) (hS : amt jS = amt jV)
    (h₁ : (src.view.loc (c : Thread nD τ) ↦[src.view.set]{q} fs : sProp 𝕄) ⊢ pay m ρ c jS)
    (h₂ : (dst.view.loc (peer c : Thread nD τ) ↦[dst.view.set]{fullShare} (dst.view.write (Elt F) fd (src.view.read (Elt F) fs) Finset.univ) : sProp 𝕄)
      ⊢ pay m ρ (peer c) jV)
    (O : CellTallies nD τ sig Unit) :
    iprop(records m ρ K ∗ (src.view.loc (c : Thread nD τ) ↦[src.view.set]{q} fs)
        ∗ (dst.view.loc (peer c : Thread nD τ) ↦[dst.view.set]{fullShare} fd)
        ∗ ow c (O + tallyAt (kcell (peer c, jV)) () (amt jV)) ∗ tok c jS ∗ tok (peer c) jV)
      ⊢ iprop(((crd c jS ∗ ow c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (csem jS) hsc) (csem jV) hsrc hdst hsem) k) Q) := by
  subst hn
  unfold ow
  iintro ⟨#HR, Hs, Hd, ⟨%W, HO⟩, Ht₁, Ht₂⟩ Hk
  ihave #HI₁ := (inv_at m ρ K c jS) $$ HR
  ihave #HI₂ := (inv_at m ρ K (peer c) jV) $$ HR
  ihave #Hr₁ := (reached_at m ρ K c jS) $$ HR
  ihave #Hr₂ := (reached_at m ρ K (peer c) jV) $$ HR
  iapply (Rounds.wp_send_pointsTo 𝒱₀ ER (sched m ρ) (c : Thread nD τ) none (κ₁ := K (c, jS)) (κ₂ := K (peer c, jV))
    (r₁ := 0) (r₂ := 0) (d₁ := ()) (d₂ := ()) (fd := fd)
    (mem_duty m ρ c jS) (mem_duty m ρ (peer c) jV) () () (amt jV) hN ((amount_cell m ρ c jS).trans hS) (amount_cell m ρ (peer c) jV)
    O rfl (W := W) (h₁.trans (Entails.of_eq (payload_cell m ρ c jS).symm)) (h₂.trans (Entails.of_eq (payload_cell m ρ (peer c) jV).symm)))
    $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  rw [← hS]
  iintro ⟨Hc, HO⟩
  iapply Hk
  isplitl [Hc]; · iexact Hc
  iexists _; iexact HO

/-- A copy within the device. -/
theorem wp_copy_cell {α : Type} {Q : α → sProp 𝕄} {k : PUnit → Prog (TpuEff nD τ sig (Elt F) Λ₀ .tc) α}
    (c : Dev nD) (j : Fin 11) {sp sp' : Space} {s : Shape} {e : EltTy}
    {src : Memref sig .tc sp s e} {dst : Memref sig .tc sp' s e}
    {hsrc : src.view.WordExact} {hdst : dst.view.WordExact} {hsem : DmaTarget.Typed (nD := nD) (p := (c : Thread nD τ).2) sp (csem j) (.here dst)}
    {q : PosShare TreeShare} {fs : Buf (Elt F) (src.view.loc (c : Thread nD τ))} {fd : Buf (Elt F) (dst.view.loc (c : Thread nD τ))}
    (hN : dst.view.amount (csem j) = amt j)
    (h : iprop((dst.view.loc (c : Thread nD τ) ↦[dst.view.set]{fullShare} (dst.view.write (Elt F) fd (src.view.read (Elt F) fs) Finset.univ))
      ∗ (src.view.loc (c : Thread nD τ) ↦[src.view.set]{q} fs)) ⊢ pay m ρ c j) :
    iprop(records m ρ K ∗ (src.view.loc (c : Thread nD τ) ↦[src.view.set]{q} fs)
        ∗ (dst.view.loc (c : Thread nD τ) ↦[dst.view.set]{fullShare} fd) ∗ tok c j)
      ⊢ iprop((crd c j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (csem j) hsrc hdst hsem) k) Q) := by
  iintro ⟨#HR, Hs, Hd, Ht⟩ Hk
  ihave #HI := (inv_at m ρ K c j) $$ HR
  ihave #Hr := (reached_at m ρ K c j) $$ HR
  iapply (Rounds.wp_copy_pointsTo 𝒱₀ ER (sched m ρ) (c : Thread nD τ) none (κ := K (c, j)) (r := 0) (d := ()) (fd := fd)
    (mem_duty m ρ c j) () (amt j) hN (amount_cell m ρ c j) (h.trans (Entails.of_eq (payload_cell m ρ c j).symm))) $$ [Hs Hd Ht]
  · isplitr; · iexact HI
    isplitl [Hs]; · iexact Hs
    isplitl [Hd]; · iexact Hd
    isplitl [Ht]; · iexact Ht
    iexact Hr
  iexact Hk

/-- The signal to the peer's barrier cell. -/
theorem wp_signal_cell {α : Type} {Q : α → sProp 𝕄} {k : PUnit → Prog (TpuEff nD τ sig (Elt F) Λ₀ .tc) α}
    (c n : Dev nD) (hn : n = peer c) (O : CellTallies nD τ sig Unit) :
    iprop(records m ρ K ∗ ow c (O + tallyAt (kcell (peer c, 0)) () (amt 0)) ∗ tok (peer c) 0 ∗ landing c)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  unfold ow
  iintro ⟨#HR, ⟨%W, HO⟩, Ht, Hl⟩ Hk
  ihave #HI := (inv_at m ρ K (peer c) 0) $$ HR
  ihave #Hr := (reached_at m ρ K (peer c) 0) $$ HR
  iapply (Rounds.wp_signal 𝒱₀ ER (sched m ρ) (c : Thread nD τ) none (dst := (peer c : Thread nD τ)) (κ := K (peer c, 0))
      (d := ()) (r := 0) (k' := 1) (mem_duty m ρ (peer c) 0) (amount_cell m ρ (peer c) 0) () O rfl) $$ [HO Ht Hl]
  · isplitr; · iexact HI
    isplitl [HO]; · iexact HO
    isplitl [Ht]; · iexact Ht
    isplitl [Hl]
    · iapply (Entails.of_eq (payload_cell m ρ (peer c) 0).symm)
      rw [show pay m ρ (peer c) 0 = landing (peer (peer c)) from rfl, peer_peer]
      iexact Hl
    iexact Hr
  iintro HO
  iapply Hk
  iexists _; iexact HO

end Rules

/-! ## Whole buffers and columns -/

theorem hz2 : (![0, 0] : Fin 2 → Nat) = fun _ => 0 := funext fun a => by fin_cases a <;> rfl

/-- A whole buffer by its view. -/
theorem pt_view (c : Dev nD) (b : Ref sig .tc) (q : PosShare TreeShare) (f : b.ty.Contents (Elt F)) :
    (((Memref.whole b).view.loc (c : Thread nD τ)) ↦[(Memref.whole b).view.set]{q} f : sProp 𝕄) = pt c b q f := by
  simp only [Memref.view_whole, View.set_whole]

theorem halves (c : Dev nD) (b : Ref sig .tc) (f : b.ty.Contents (Elt F)) :
    (pt c b fullShare f : sProp 𝕄) ⊣⊢ iprop(pt c b fullShare.left f ∗ pt c b fullShare.right f) :=
  pointsTo_share (PosShare.mem_left_op_right fullShare)

abbrev rX : Rect S256x512 := Rect.unit (s := S256x512) ![0, 0] S256x512.size inb_S256x512_S256x512_0_0
abbrev rR : Rect S512x2 := Rect.unit (s := S512x2) ![0, 0] S512x2.size inb_S512x2_S512x2_0_0

theorem rd_stg0 (f : (cc0_stg0_0 : Ref sig .tc).ty.Contents (Elt F)) :
    (Memref.whole cc0_stg0_0 : Memref sig .tc .vmem S256x512 .f32).view.readAt (Elt F) rX.toLoadRect f = f := Memref.readAt_unit_zero (Elt F) cc0_stg0_0 hz2 _ f
theorem rd_stg1 (f : (cc0_stg1_0 : Ref sig .tc).ty.Contents (Elt F)) :
    (Memref.whole cc0_stg1_0 : Memref sig .tc .vmem S512x2 .f32).view.readAt (Elt F) rR.toLoadRect f = f := Memref.readAt_unit_zero (Elt F) cc0_stg1_0 hz2 _ f
theorem rd_s0 (f : (cc0_scratch0 : Ref sig .tc).ty.Contents (Elt F)) :
    (Memref.whole cc0_scratch0 : Memref sig .tc .vmem S256x512 .bf16).view.readAt (Elt F) rX.toLoadRect f = f := Memref.readAt_unit_zero (Elt F) cc0_scratch0 hz2 _ f
theorem rd_s1 (f : (cc0_scratch1 : Ref sig .tc).ty.Contents (Elt F)) :
    (Memref.whole cc0_scratch1 : Memref sig .tc .vmem S256x512 .bf16).view.readAt (Elt F) rX.toLoadRect f = f := Memref.readAt_unit_zero (Elt F) cc0_scratch1 hz2 _ f
theorem rd_s4 (f : (cc0_scratch4 : Ref sig .tc).ty.Contents (Elt F)) :
    (Memref.whole cc0_scratch4 : Memref sig .tc .vmem S512x2 .f32).view.readAt (Elt F) rR.toLoadRect f = f := Memref.readAt_unit_zero (Elt F) cc0_scratch4 hz2 _ f
theorem rd_s6 (f : (cc0_scratch6 : Ref sig .tc).ty.Contents (Elt F)) :
    (Memref.whole cc0_scratch6 : Memref sig .tc .vmem S256x512 .bf16).view.readAt (Elt F) rX.toLoadRect f = f := Memref.readAt_unit_zero (Elt F) cc0_scratch6 hz2 _ f
theorem wr_s0 (f w : (cc0_scratch0 : Ref sig .tc).ty.Contents (Elt F)) :
    ((Memref.whole cc0_scratch0 : Memref sig .tc .vmem S256x512 .bf16).access rX : View sig .tc _ _ _).write (Elt F) f w Finset.univ = w :=
  Memref.write_access_unit_zero_univ (Elt F) cc0_scratch0 hz2 _ f w
theorem wr_s5 (f w : (cc0_scratch5 : Ref sig .tc).ty.Contents (Elt F)) :
    ((Memref.whole cc0_scratch5 : Memref sig .tc .vmem S256x512 .bf16).access rX : View sig .tc _ _ _).write (Elt F) f w Finset.univ = w :=
  Memref.write_access_unit_zero_univ (Elt F) cc0_scratch5 hz2 _ f w
theorem wr_stg2 (f w : (cc0_stg2_0 : Ref sig .tc).ty.Contents (Elt F)) :
    ((Memref.whole cc0_stg2_0 : Memref sig .tc .vmem S256x512 .f32).access rX : View sig .tc _ _ _).write (Elt F) f w Finset.univ = w :=
  Memref.write_access_unit_zero_univ (Elt F) cc0_stg2_0 hz2 _ f w

abbrev wsM : Memref sig .tc .vmem S256x2 .f32 := Memref.whole cc0_scratch2

theorem col0_emb (j : S256x1.Idx) : (wsM.access rC0).emb j = (fun | ⟨0, _⟩ => j 0 | ⟨1, _⟩ => (0 : Fin 2) : S256x2.Idx) := by
  funext a
  fin_cases a
  · exact Fin.ext (by show 0 + 1 * (j 0).val = (j 0).val; omega)
  · have h := (j 1).isLt
    exact Fin.ext (by show 0 + 1 * (j 1).val = 0; have : (j 1).val < 1 := h; omega)

theorem col1_emb (j : S256x1.Idx) : (wsM.access rC1).emb j = (fun | ⟨0, _⟩ => j 0 | ⟨1, _⟩ => (1 : Fin 2) : S256x2.Idx) := by
  funext a
  fin_cases a
  · exact Fin.ext (by show 0 + 1 * (j 0).val = (j 0).val; omega)
  · have h := (j 1).isLt
    exact Fin.ext (by show 1 + 1 * (j 1).val = 1; have : (j 1).val < 1 := h; omega)

theorem oneCol_mk (i : S256x2.Idx) (h : (i 1).val = 0) : (wsM.access rC0).emb (oneCol i) = i := by
  rw [col0_emb]; funext a; fin_cases a
  · rfl
  · exact Fin.ext h.symm

theorem oneCol_mk1 (i : S256x2.Idx) (h : (i 1).val ≠ 0) : (wsM.access rC1).emb (oneCol i) = i := by
  rw [col1_emb]; funext a; fin_cases a
  · rfl
  · have h2 : (i 1).val < 2 := (i 1).isLt
    exact Fin.ext (by show 1 = (i 1).val; omega)

/-- The two column stores leave the two columns, whatever was there before. -/
theorem write_cols (f : (cc0_scratch2 : Ref sig .tc).ty.Contents (Elt F)) (a b : FVec F S256x1 .f32) :
    (wsM.access rC1 : View sig .tc _ _ _).write (Elt F) ((wsM.access rC0 : View sig .tc _ _ _).write (Elt F) f a Finset.univ) b Finset.univ
      = fun i : S256x2.Idx => if (i 1).val = 0 then a (oneCol i) else b (oneCol i) := by
  funext i
  by_cases h : (i 1).val = 0
  · rw [if_pos h, View.write_of_not_mem]
    · conv_lhs => rw [← oneCol_mk i h]
      exact View.write_emb_of_mem _ _ (Finset.mem_univ _)
    · intro hm
      obtain ⟨j, -, hj⟩ := Finset.mem_map.mp hm
      rw [← hj] at h
      have h' := congrArg (fun x : S256x2.Idx => (x 1).val) (col1_emb j)
      dsimp only at h'
      exact absurd (h.symm.trans h') (by decide)
  · rw [if_neg h]
    conv_lhs => rw [← oneCol_mk1 i h]
    exact View.write_emb_of_mem _ _ (Finset.mem_univ _)

/-! ## The parts -/

section Parts
variable (c : Dev nD)

abbrev dw2 : BitVec 32 := Scalar.remsi (Scalar.divsi (Dev.word c) 8#32) 2#32
abbrev dw8 : BitVec 32 := Scalar.remsi (Scalar.divsi (Dev.word c) 1#32) 4#32
abbrev dw9 : BitVec 32 := Scalar.subi 1#32 (Scalar.remsi (Scalar.divsi (Dev.word c) 4#32) 2#32)

abbrev wpB {α : Type} (p : Prog (TpuEff nD τ sig (Elt F) Λ₀ .tc) α) (Kt : α → sProp 𝕄) : sProp 𝕄 :=
  wp frame (wpE (defs₀ (F := F)) 𝒱₀ (c : Thread nD τ) none) Set.univ p Kt

def pre1 : sProp 𝕄 :=
  iprop(records m ρ K ∗ ow c (O₀ c) ∗ crd c 0 ∗ atR c 0 0 ∗ tok c 9 ∗ tok c 10 ∗ tok (peer c) 0 ∗ tok c 1 ∗ tok (peer c) 5
    ∗ pt c main_arg2 fullShare (w1 m ρ c) ∗ pt c main_arg3 fullShare (w2 m ρ c)
    ∗ (∃ f, pt c cc0_scratch7 fullShare f) ∗ (∃ f, pt c cc0_scratch8 fullShare f)
    ∗ landing c ∗ pt c cc0_stg1_0 fullShare (rs m ρ c))

def post1 : sProp 𝕄 :=
  iprop(ow c (O2 c) ∗ crd c 9 ∗ crd c 10 ∗ crd c 1 ∗ atR c 0 1
    ∗ (∃ f, pt (peer c) cc0_scratch1 fullShare f) ∗ (∃ f, pt (peer c) cc0_scratch3 fullShare f) ∗ (∃ f, pt (peer c) cc0_scratch6 fullShare f)
    ∗ pt c cc0_stg1_0 fullShare.left (rs m ρ c))

theorem part1_wp (Kt : _ → sProp 𝕄) :
    iprop(pre1 m ρ K c ∗ (post1 m ρ c -∗ Kt ⟨c, dw2 c, dw8 c, dw9 c⟩))
      ⊢ wpB c (k0_part1 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11) Kt := by
  rw [k0_part1_eq_skeleton]; unfold k0_part1_skel wpB
  simp only [semSignalWord, semWaitWord, Prog.lift, Prog.bind_op, Prog.bind_ret, Prog.pure_eq_ret, wp_deviceId]
  unfold pre1 post1
  iintro ⟨⟨#HR, HO, HcB, HatB, Ht9, Ht10, HtB, Ht1, Ht5, Ha2, Ha3, ⟨%f7, H7⟩, ⟨%f8, H8⟩, Hland, Hrs⟩, Hk⟩
  -- the two copies of the weights
  iapply (wp_copy_cell m ρ K c 9 (src := Memref.whole main_arg2) (dst := Memref.whole cc0_scratch7) (fd := f7) (fs := w1 m ρ c) (q := fullShare) rfl
    (by rw [pt_view, pt_view]; simp only [Memref.view_whole, View.read_whole, View.write_whole_univ]; exact .refl)) $$ [Ha2 H7 Ht9]
  · isplitr; · iexact HR
    isplitl [Ha2]; · rw [pt_view]; iexact Ha2
    isplitl [H7]; · rw [pt_view]; iexact H7
    iexact Ht9
  iintro Hc9
  iapply (wp_copy_cell m ρ K c 10 (src := Memref.whole main_arg3) (dst := Memref.whole cc0_scratch8) (fd := f8) (fs := w2 m ρ c) (q := fullShare) rfl
    (by rw [pt_view, pt_view]; simp only [Memref.view_whole, View.read_whole, View.write_whole_univ]; exact .refl)) $$ [Ha3 H8 Ht10]
  · isplitr; · iexact HR
    isplitl [Ha3]; · rw [pt_view]; iexact Ha3
    isplitl [H8]; · rw [pt_view]; iexact H8
    iexact Ht10
  iintro Hc10
  -- the handshake
  unfold O₀
  iapply (wp_signal_cell m ρ K c _ (dev1_eq c) (O1 c)) $$ [HO HtB Hland]
  · isplitr; · iexact HR
    isplitl [HO]; · iexact HO
    isplitl [HtB]; · iexact HtB
    iexact Hland
  iintro HO
  iapply (wp_wait_cell m ρ K c 0 (wpE_semWait_eq 𝒱₀ (c : Thread nD τ) none Set.univ) [5, 6, 7, 8] (by decide) (O1 c) (owesOnly1 c)) $$ [HcB HO HatB]
  · isplitr; · iexact HR
    isplitl [HcB]; · iexact HcB
    isplitl [HO]; · iexact HO
    iexact HatB
  iintro ⟨HO, HatB, Hpay⟩
  ihave Hp := (Entails.of_eq (show pay m ρ c 0 = landing (peer c) from rfl)) $$ Hpay
  unfold landing
  icases Hp with ⟨⟨%f4, H4⟩, H1, H3, H6⟩
  -- the router block
  ihave Hh := (halves c cc0_stg1_0 (rs m ρ c)).1 $$ Hrs
  icases Hh with ⟨Hl, Hr⟩
  unfold O1
  iapply (wp_send_cell m ρ K c _ (dev2_eq c) 1 5 (src := Memref.whole cc0_stg1_0) (dst := Memref.whole cc0_scratch4) (fd := f4) (fs := rs m ρ c) (q := fullShare.right) rfl rfl
    (by rw [pt_view]; exact .refl)
    (by rw [pt_view]; simp only [Memref.view_whole, View.read_whole, View.write_whole_univ]
        rw [show pay m ρ (peer c) 5 = pt (peer c) cc0_scratch4 fullShare (rs m ρ (peer (peer c))) from rfl, peer_peer])
    (O2 c)) $$ [Hr H4 HO Ht1 Ht5]
  · isplitr; · iexact HR
    isplitl [Hr]; · rw [pt_view]; iexact Hr
    isplitl [H4]; · rw [pt_view]; iexact H4
    isplitl [HO]; · iexact HO
    isplitl [Ht1] <;> iassumption
  iintro ⟨Hc1, HO⟩
  rw [wp_ret]; imodintro
  iapply Hk
  isplitl [HO]; · iexact HO
  isplitl [Hc9]; · iexact Hc9
  isplitl [Hc10]; · iexact Hc10
  isplitl [Hc1]; · iexact Hc1
  isplitl [HatB]; · iexact HatB
  isplitl [H1]; · iexact H1
  isplitl [H3]; · iexact H3
  isplitl [H6]; · iexact H6
  iexact Hl

def pre2 : sProp 𝕄 :=
  iprop(records m ρ K ∗ ow c (O2 c) ∗ crd c 1 ∗ crd c 5 ∗ atR c 1 0 ∗ atR c 5 0 ∗ tok c 2 ∗ tok (peer c) 6
    ∗ pt c cc0_stg0_0 fullShare (xs m ρ c) ∗ (∃ f, pt c cc0_scratch0 fullShare f) ∗ (∃ f, pt (peer c) cc0_scratch1 fullShare f)
    ∗ pt c cc0_stg1_0 fullShare.left (rs m ρ c))

def post2 : sProp 𝕄 :=
  iprop(ow c (O3 c) ∗ crd c 2 ∗ atR c 1 1 ∗ atR c 5 1 ∗ pt c cc0_stg0_0 fullShare (xs m ρ c) ∗ pt c cc0_stg1_0 fullShare (rs m ρ c)
    ∗ pt c cc0_scratch0 fullShare.left (xb m ρ c) ∗ pt c cc0_scratch4 fullShare (rs m ρ (peer c)))

theorem part2_wp (a b d : BitVec 32) (Kt : _ → sProp 𝕄) :
    iprop(pre2 m ρ K c ∗ (post2 m ρ c -∗ Kt ⟨xv m ρ c, g01 m ρ c⟩))
      ⊢ wpB c (k0_part2 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 c a b d) Kt := by
  rw [k0_part2_eq_skeleton]; unfold k0_part2_skel wpB
  simp only [Prog.lift, Prog.bind_op, Prog.bind_ret, Prog.pure_eq_ret]
  unfold pre2 post2
  iintro ⟨⟨#HR, HO, Hc1, Hc5, Hat1, Hat5, Ht2, Ht6, Hx, ⟨%f0, H0⟩, ⟨%f1, H1⟩, Hl⟩, Hk⟩
  iapply (wp_load 𝒱₀ (c : Thread nD τ) none Set.univ (m := Memref.whole cc0_stg0_0) (Finset.subset_univ _)) $$ Hx; iintro Hx
  rw [rd_stg0]
  iapply (wp_load 𝒱₀ (c : Thread nD τ) none Set.univ (m := Memref.whole cc0_scratch0) (Finset.subset_univ _)) $$ H0; iintro H0
  iapply (wp_store 𝒱₀ (c : Thread nD τ) none Set.univ (m := Memref.whole cc0_scratch0) (r := rX) (Mk := Finset.univ) (Finset.subset_univ _)) $$ H0; iintro H0
  rw [wr_s0, show k0_pay2 (xs m ρ c) = xb m ρ c from rfl]
  ihave Hh := (halves c cc0_scratch0 (xb m ρ c)).1 $$ H0
  icases Hh with ⟨H0l, H0r⟩
  unfold O2
  iapply (wp_send_cell m ρ K c _ (dev3_eq c) 2 6 (src := Memref.whole cc0_scratch0) (dst := Memref.whole cc0_scratch1) (fd := f1) (fs := xb m ρ c) (q := fullShare.right) rfl rfl
    (by rw [pt_view]; exact .refl)
    (by rw [pt_view]; simp only [Memref.view_whole, View.read_whole, View.write_whole_univ]
        rw [show pay m ρ (peer c) 6 = pt (peer c) cc0_scratch1 fullShare (xb m ρ (peer (peer c))) from rfl, peer_peer])
    (O3 c)) $$ [H0r H1 HO Ht2 Ht6]
  · isplitr; · iexact HR
    isplitl [H0r]; · rw [pt_view]; iexact H0r
    isplitl [H1]; · rw [pt_view]; iexact H1
    isplitl [HO]; · iexact HO
    isplitl [Ht2] <;> iassumption
  iintro ⟨Hc2, HO⟩
  iapply (wp_load 𝒱₀ (c : Thread nD τ) none Set.univ (m := Memref.whole cc0_stg0_0) (Finset.subset_univ _)) $$ Hx; iintro Hx
  rw [rd_stg0]
  iapply (wp_load 𝒱₀ (c : Thread nD τ) none Set.univ (m := Memref.whole cc0_stg1_0) (Finset.subset_univ _)) $$ Hl; iintro Hl
  rw [rd_stg1]
  iapply (wp_wait_cell m ρ K c 1 (wpE_waitDma2_eq 𝒱₀ (c : Thread nD τ) none Set.univ) [7, 8] (by decide) (O3 c) (owesOnly3 c)) $$ [Hc1 HO Hat1]
  · isplitr; · iexact HR
    isplitl [Hc1]; · iexact Hc1
    isplitl [HO] <;> iassumption
  iintro ⟨HO, Hat1, Hpay⟩
  ihave Hr := (Entails.of_eq (show pay m ρ c 1 = pt c cc0_stg1_0 fullShare.right (rs m ρ c) from rfl)) $$ Hpay
  ihave Hrs := (halves c cc0_stg1_0 (rs m ρ c)).2 $$ [Hl Hr]
  · isplitl [Hl] <;> iassumption
  iapply (wp_wait_cell m ρ K c 5 (wpE_waitDma2_eq 𝒱₀ (c : Thread nD τ) none Set.univ) [7, 8] (by decide) (O3 c) (owesOnly3 c)) $$ [Hc5 HO Hat5]
  · isplitr; · iexact HR
    isplitl [Hc5]; · iexact Hc5
    isplitl [HO] <;> iassumption
  iintro ⟨HO, Hat5, Hpay⟩
  ihave H4 := (Entails.of_eq (show pay m ρ c 5 = pt c cc0_scratch4 fullShare (rs m ρ (peer c)) from rfl)) $$ Hpay
  rw [wp_ret]; imodintro
  iapply Hk
  isplitl [HO]; · iexact HO
  isplitl [Hc2]; · iexact Hc2
  isplitl [Hat1]; · iexact Hat1
  isplitl [Hat5]; · iexact Hat5
  isplitl [Hx]; · iexact Hx
  isplitl [Hrs]; · iexact Hrs
  isplitl [H0l]; · iexact H0l
  iexact H4

abbrev u67 : FVec F S256x1 .f32 := k0_pay9 (xv m ρ c) (rs m ρ (peer c))
abbrev u70 : FVec F S256x1 .f32 := k0_pay10 (xv m ρ c) (g01 m ρ c) (rs m ρ (peer c))
abbrev u85 : FVec F S256x1 .f32 := k0_pay11 (xv m ρ c) (g01 m ρ c) (rs m ρ (peer c))
abbrev u89 : FVec F S256x1 .f32 := k0_pay12 (xv m ρ c) (g01 m ρ c) (rs m ρ (peer c))

theorem part3_wp (Kt : _ → sProp 𝕄) :
    iprop((pt c cc0_scratch4 fullShare (rs m ρ (peer c)) ∗ (∃ f, pt c cc0_scratch2 fullShare f))
        ∗ ((pt c cc0_scratch4 fullShare (rs m ρ (peer c)) ∗ (∃ f, pt c cc0_scratch2 fullShare f))
          -∗ Kt ⟨u67 m ρ c, u70 m ρ c, u85 m ρ c, u89 m ρ c, wA m ρ c, wB m ρ c, wC m ρ c⟩))
      ⊢ wpB c (k0_part3 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 (xv m ρ c) (g01 m ρ c)) Kt := by
  rw [k0_part3_eq_skeleton]; unfold k0_part3_skel wpB
  simp only [Prog.lift, Prog.bind_op, Prog.bind_ret, Prog.pure_eq_ret]
  iintro ⟨⟨H4, ⟨%f2, H2⟩⟩, Hk⟩
  iapply (wp_load 𝒱₀ (c : Thread nD τ) none Set.univ (m := Memref.whole cc0_scratch4) (Finset.subset_univ _)) $$ H4; iintro H4
  rw [rd_s4]
  iapply (wp_load 𝒱₀ (c : Thread nD τ) none Set.univ (m := Memref.whole cc0_scratch2) (Finset.subset_univ _)) $$ H2; iintro H2
  rw [wp_ret]; imodintro
  iapply Hk
  isplitl [H4]; · iexact H4
  iexists _; iexact H2

theorem write_wv (f : (cc0_scratch2 : Ref sig .tc).ty.Contents (Elt F)) :
    (wsM.access rC1 : View sig .tc _ _ _).write (Elt F) ((wsM.access rC0 : View sig .tc _ _ _).write (Elt F) f (wC m ρ c) Finset.univ)
      (k0_pay16 (u67 m ρ c) (u70 m ρ c) (u85 m ρ c) (u89 m ρ c)) Finset.univ = wv m ρ c := write_cols f (wC m ρ c) (wD m ρ c)

def pre4 : sProp 𝕄 :=
  iprop(records m ρ K ∗ ow c (O3 c) ∗ crd c 9 ∗ crd c 10 ∗ atR c 9 0 ∗ atR c 10 0 ∗ tok c 3 ∗ tok (peer c) 7
    ∗ (∃ f, pt c cc0_scratch2 fullShare f) ∗ (∃ f, pt (peer c) cc0_scratch3 fullShare f))

def post4 : sProp 𝕄 :=
  iprop(ow c (O4 c) ∗ crd c 3 ∗ atR c 9 1 ∗ atR c 10 1 ∗ pt c main_arg2 fullShare (w1 m ρ c) ∗ pt c main_arg3 fullShare (w2 m ρ c)
    ∗ pt c cc0_scratch7 fullShare (w1 m ρ c) ∗ pt c cc0_scratch8 fullShare (w2 m ρ c))

theorem part4_wp (a b d : BitVec 32) (Kt : _ → sProp 𝕄) :
    iprop(pre4 m ρ K c ∗ (post4 m ρ c -∗ Kt ⟨e1a m ρ c, e1b m ρ c, e2a m ρ c⟩))
      ⊢ wpB c (k0_part4 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 c a b d (u67 m ρ c) (u70 m ρ c) (u85 m ρ c) (u89 m ρ c) (wC m ρ c)) Kt := by
  rw [k0_part4_eq_skeleton]; unfold k0_part4_skel wpB
  simp only [Prog.lift, Prog.bind_op, Prog.bind_ret, Prog.pure_eq_ret]
  unfold pre4 post4
  iintro ⟨⟨#HR, HO, Hc9, Hc10, Hat9, Hat10, Ht3, Ht7, ⟨%f2, H2⟩, ⟨%f3, H3⟩⟩, Hk⟩
  iapply (wp_store 𝒱₀ (c : Thread nD τ) none Set.univ (m := Memref.whole cc0_scratch2) (r := rC0) (Mk := Finset.univ) (Finset.subset_univ _)) $$ H2; iintro H2
  iapply (wp_load 𝒱₀ (c : Thread nD τ) none Set.univ (m := Memref.whole cc0_scratch2) (Finset.subset_univ _)) $$ H2; iintro H2
  iapply (wp_store 𝒱₀ (c : Thread nD τ) none Set.univ (m := Memref.whole cc0_scratch2) (r := rC1) (Mk := Finset.univ) (Finset.subset_univ _)) $$ H2; iintro H2
  rw [write_wv]
  unfold O3
  iapply (wp_send_cell m ρ K c _ (dev4_eq c) 3 7 (src := Memref.whole cc0_scratch2) (dst := Memref.whole cc0_scratch3) (fd := f3) (fs := wv m ρ c) (q := fullShare) rfl rfl
    (by rw [pt_view]; exact .refl)
    (by rw [pt_view]; simp only [Memref.view_whole, View.read_whole, View.write_whole_univ]
        rw [show pay m ρ (peer c) 7 = pt (peer c) cc0_scratch3 fullShare (wv m ρ (peer (peer c))) from rfl, peer_peer])
    (O4 c)) $$ [H2 H3 HO Ht3 Ht7]
  · isplitr; · iexact HR
    isplitl [H2]; · rw [pt_view]; iexact H2
    isplitl [H3]; · rw [pt_view]; iexact H3
    isplitl [HO]; · iexact HO
    isplitl [Ht3] <;> iassumption
  iintro ⟨Hc3, HO⟩
  iapply (wp_wait_cell m ρ K c 9 (wpE_waitDma2_eq 𝒱₀ (c : Thread nD τ) none Set.univ) [8] (by decide) (O4 c) (owesOnly4 c)) $$ [Hc9 HO Hat9]
  · isplitr; · iexact HR
    isplitl [Hc9]; · iexact Hc9
    isplitl [HO] <;> iassumption
  iintro ⟨HO, Hat9, Hpay⟩
  ihave Hp := (Entails.of_eq (show pay m ρ c 9 = iprop(pt c cc0_scratch7 fullShare (w1 m ρ c) ∗ pt c main_arg2 fullShare (w1 m ρ c)) from rfl)) $$ Hpay
  icases Hp with ⟨H7, Ha2⟩
  iapply (wp_wait_cell m ρ K c 10 (wpE_waitDma2_eq 𝒱₀ (c : Thread nD τ) none Set.univ) [8] (by decide) (O4 c) (owesOnly4 c)) $$ [Hc10 HO Hat10]
  · isplitr; · iexact HR
    isplitl [Hc10]; · iexact Hc10
    isplitl [HO] <;> iassumption
  iintro ⟨HO, Hat10, Hpay⟩
  ihave Hp := (Entails.of_eq (show pay m ρ c 10 = iprop(pt c cc0_scratch8 fullShare (w2 m ρ c) ∗ pt c main_arg3 fullShare (w2 m ρ c)) from rfl)) $$ Hpay
  icases Hp with ⟨H8, Ha3⟩
  iapply (wp_load 𝒱₀ (c : Thread nD τ) none Set.univ (m := Memref.whole cc0_scratch7) (Finset.subset_univ _)) $$ H7; iintro H7
  iapply (wp_load 𝒱₀ (c : Thread nD τ) none Set.univ (m := Memref.whole cc0_scratch7) (Finset.subset_univ _)) $$ H7; iintro H7
  iapply (wp_load 𝒱₀ (c : Thread nD τ) none Set.univ (m := Memref.whole cc0_scratch8) (Finset.subset_univ _)) $$ H8; iintro H8
  rw [wp_ret]; imodintro
  iapply Hk
  isplitl [HO]; · iexact HO
  isplitl [Hc3]; · iexact Hc3
  isplitl [Hat9]; · iexact Hat9
  isplitl [Hat10]; · iexact Hat10
  isplitl [Ha2]; · iexact Ha2
  isplitl [Ha3]; · iexact Ha3
  isplitl [H7]; · iexact H7
  iexact H8

def pre5 : sProp 𝕄 :=
  iprop(records m ρ K ∗ ow c (O4 c) ∗ crd c 2 ∗ crd c 6 ∗ atR c 2 0 ∗ atR c 6 0
    ∗ pt c cc0_scratch8 fullShare (w2 m ρ c) ∗ pt c cc0_scratch0 fullShare.left (xb m ρ c))

def post5 : sProp 𝕄 :=
  iprop(ow c (O4 c) ∗ atR c 2 1 ∗ atR c 6 1
    ∗ pt c cc0_scratch8 fullShare (w2 m ρ c) ∗ pt c cc0_scratch0 fullShare (xb m ρ c) ∗ pt c cc0_scratch1 fullShare (xb m ρ (peer c)))

theorem part5_wp (a b d : BitVec 32) (Kt : _ → sProp 𝕄) :
    iprop(pre5 m ρ K c ∗ (post5 m ρ c -∗ Kt ⟨e2b m ρ c, mine m ρ c, xb m ρ (peer c),
        k0_pay22 (e1a m ρ c) (e2a m ρ c) (xb m ρ (peer c)), constant S256x1024 .f32 0x00000000#32⟩))
      ⊢ wpB c (k0_part5 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 a b d (wA m ρ c) (wB m ρ c) (e1a m ρ c) (e1b m ρ c) (e2a m ρ c)) Kt := by
  rw [k0_part5_eq_skeleton]; unfold k0_part5_skel wpB
  simp only [Prog.lift, Prog.bind_op, Prog.bind_ret, Prog.pure_eq_ret]
  unfold pre5 post5
  iintro ⟨⟨#HR, HO, Hc2, Hc6, Hat2, Hat6, H8, H0l⟩, Hk⟩
  iapply (wp_load 𝒱₀ (c : Thread nD τ) none Set.univ (m := Memref.whole cc0_scratch8) (Finset.subset_univ _)) $$ H8; iintro H8
  iapply (wp_load 𝒱₀ (c : Thread nD τ) none Set.univ (m := Memref.whole cc0_scratch0) (Finset.subset_univ _)) $$ H0l; iintro H0l
  rw [rd_s0]
  iapply (wp_wait_cell m ρ K c 2 (wpE_waitDma2_eq 𝒱₀ (c : Thread nD τ) none Set.univ) [8] (by decide) (O4 c) (owesOnly4 c)) $$ [Hc2 HO Hat2]
  · isplitr; · iexact HR
    isplitl [Hc2]; · iexact Hc2
    isplitl [HO] <;> iassumption
  iintro ⟨HO, Hat2, Hpay⟩
  ihave H0r := (Entails.of_eq (show pay m ρ c 2 = pt c cc0_scratch0 fullShare.right (xb m ρ c) from rfl)) $$ Hpay
  ihave H0 := (halves c cc0_scratch0 (xb m ρ c)).2 $$ [H0l H0r]
  · isplitl [H0l] <;> iassumption
  iapply (wp_wait_cell m ρ K c 6 (wpE_waitDma2_eq 𝒱₀ (c : Thread nD τ) none Set.univ) [8] (by decide) (O4 c) (owesOnly4 c)) $$ [Hc6 HO Hat6]
  · isplitr; · iexact HR
    isplitl [Hc6]; · iexact Hc6
    isplitl [HO] <;> iassumption
  iintro ⟨HO, Hat6, Hpay⟩
  ihave H1 := (Entails.of_eq (show pay m ρ c 6 = pt c cc0_scratch1 fullShare (xb m ρ (peer c)) from rfl)) $$ Hpay
  iapply (wp_load 𝒱₀ (c : Thread nD τ) none Set.univ (m := Memref.whole cc0_scratch1) (Finset.subset_univ _)) $$ H1; iintro H1
  rw [rd_s1]
  rw [wp_ret]; imodintro
  iapply Hk
  isplitl [HO]; · iexact HO
  isplitl [Hat2]; · iexact Hat2
  isplitl [Hat6]; · iexact Hat6
  isplitl [H8]; · iexact H8
  isplitl [H0]; · iexact H0
  iexact H1

def pre6 : sProp 𝕄 :=
  iprop(records m ρ K ∗ ow c (O4 c) ∗ crd c 3 ∗ crd c 7 ∗ atR c 3 0 ∗ atR c 7 0 ∗ (∃ f, pt c cc0_scratch5 fullShare f))

def post6 : sProp 𝕄 :=
  iprop(ow c (O4 c) ∗ atR c 3 1 ∗ atR c 7 1
    ∗ pt c cc0_scratch2 fullShare (wv m ρ c) ∗ pt c cc0_scratch3 fullShare (wv m ρ (peer c)) ∗ pt c cc0_scratch5 fullShare (pv m ρ c))

theorem part6_wp (a b d : BitVec 32) (Kt : PUnit → sProp 𝕄) :
    iprop(pre6 m ρ K c ∗ (post6 m ρ c -∗ Kt ⟨⟩))
      ⊢ wpB c (k0_part6 (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11 a b d (e1b m ρ c) (e2b m ρ c) (xb m ρ (peer c))
          (k0_pay22 (e1a m ρ c) (e2a m ρ c) (xb m ρ (peer c))) (constant S256x1024 .f32 0x00000000#32)) Kt := by
  rw [k0_part6_eq_skeleton]; unfold k0_part6_skel wpB
  simp only [Prog.lift, Prog.bind_op, Prog.bind_ret, Prog.pure_eq_ret]
  unfold pre6 post6
  iintro ⟨⟨#HR, HO, Hc3, Hc7, Hat3, Hat7, ⟨%f5, H5⟩⟩, Hk⟩
  iapply (wp_wait_cell m ρ K c 3 (wpE_waitDma2_eq 𝒱₀ (c : Thread nD τ) none Set.univ) [8] (by decide) (O4 c) (owesOnly4 c)) $$ [Hc3 HO Hat3]
  · isplitr; · iexact HR
    isplitl [Hc3]; · iexact Hc3
    isplitl [HO] <;> iassumption
  iintro ⟨HO, Hat3, Hpay⟩
  ihave H2 := (Entails.of_eq (show pay m ρ c 3 = pt c cc0_scratch2 fullShare (wv m ρ c) from rfl)) $$ Hpay
  iapply (wp_wait_cell m ρ K c 7 (wpE_waitDma2_eq 𝒱₀ (c : Thread nD τ) none Set.univ) [8] (by decide) (O4 c) (owesOnly4 c)) $$ [Hc7 HO Hat7]
  · isplitr; · iexact HR
    isplitl [Hc7]; · iexact Hc7
    isplitl [HO] <;> iassumption
  iintro ⟨HO, Hat7, Hpay⟩
  ihave H3 := (Entails.of_eq (show pay m ρ c 7 = pt c cc0_scratch3 fullShare (wv m ρ (peer c)) from rfl)) $$ Hpay
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch3) (Finset.subset_univ _)) $$ H3; iintro H3
  iapply (wp_load 𝒱₀ (c : Thread nD τ) none Set.univ (m := Memref.whole cc0_scratch5) (Finset.subset_univ _)) $$ H5; iintro H5
  iapply (wp_store 𝒱₀ (c : Thread nD τ) none Set.univ (m := Memref.whole cc0_scratch5) (r := rX) (Mk := Finset.univ) (Finset.subset_univ _)) $$ H5; iintro H5
  rw [wr_s5]
  rw [wp_ret]; imodintro
  iapply Hk
  isplitl [HO]; · iexact HO
  isplitl [Hat3]; · iexact Hat3
  isplitl [Hat7]; · iexact Hat7
  isplitl [H2]; · iexact H2
  isplitl [H3]; · iexact H3
  iexact H5

end Parts

end Cert.KernelIdeal.Run

end
-- ==== Proof.KernelIdeal.Launch.lean ====
/-
# The whole body, and the launch

`sound_body` runs a device's body from what the launch hands it to the closed cells; `run_main` is the run of all
sixteen devices: it ends, every device's result array holds `outAt`, the four argument arrays hold what they held, and
every semaphore is back at zero.
-/
module

public import Idealize.ShloMosaic.Lib.Pipeline.CollectiveSegs
public import proofs.«01_k».proof.Proof.KernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts with and ends with -/

/-- Whose cell `k` device `c` pays: the peer's barrier and receive cells, its own others. -/
def tgt (c : Dev nD) (k : Fin 11) : Dev nD := if k ∈ ([0, 5, 6, 7, 8] : List (Fin 11)) then peer c else c

def payToks (c : Dev nD) : sProp 𝕄 := bigSep Finset.univ fun k : Fin 11 => (tok (tgt c k) k : sProp 𝕄)
def positions (c : Dev nD) : sProp 𝕄 := bigSep Finset.univ fun k : Fin 11 => (atR c k 0 : sProp 𝕄)

/-- The cells' invariants and that each is at round 0. -/
def recs (K : Dev nD × Fin 11 → ℕ) : sProp 𝕄 :=
  iprop((bigSep Finset.univ fun ck => cellInv ER (sched m ρ) (K ck) (kcell ck))
    ∗ bigSep Finset.univ fun ck => (reached ER (kcell ck) 0 : sProp 𝕄))

instance recs_persistent (K : Dev nD × Fin 11 → ℕ) : BI.Persistent (recs (F := F) m ρ K) := by unfold recs; infer_instance

def ghost (c : Dev nD) : sProp 𝕄 := iprop(∃ K, recs m ρ K ∗ positions c ∗ payToks c)

def credits (c : Dev nD) : sProp 𝕄 := iprop(crd c 0 ∗ crd c 5 ∗ crd c 6 ∗ crd c 7 ∗ crd c 8)

/-- The expert weights' arrays, as launched. -/
def weights (c : Dev nD) : sProp 𝕄 := iprop(pt c main_arg2 fullShare (w1 m ρ c) ∗ pt c main_arg3 fullShare (w2 m ρ c))

def start (c : Dev nD) : sProp 𝕄 := iprop(ghost m ρ c ∗ credits c ∗ (levAts L lv : sProp 𝕄) ∗ weights m ρ c)

def anyScratch (c : Dev nD) : sProp 𝕄 :=
  iprop((∃ f, pt c cc0_scratch0 fullShare f) ∗ (∃ f, pt c cc0_scratch1 fullShare f) ∗ (∃ f, pt c cc0_scratch2 fullShare f)
    ∗ (∃ f, pt c cc0_scratch3 fullShare f) ∗ (∃ f, pt c cc0_scratch4 fullShare f) ∗ (∃ f, pt c cc0_scratch5 fullShare f)
    ∗ (∃ f, pt c cc0_scratch6 fullShare f) ∗ (∃ f, pt c cc0_scratch7 fullShare f) ∗ (∃ f, pt c cc0_scratch8 fullShare f))

def zeros (c : Dev nD) : sProp 𝕄 := bigSep Finset.univ fun k : Fin 11 => (semVal (kcell (c, k)) 0 : sProp 𝕄)

def Φ₀ (c : Dev nD) : sProp 𝕄 := iprop(start m ρ c ∗ anyScratch c)
def Φ₁ (c : Dev nD) : sProp 𝕄 := iprop(zeros c ∗ weights m ρ c ∗ anyScratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => rs m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem positions_eq (c : Dev nD) : (positions c : sProp 𝕄)
    = iprop(atR c 0 0 ∗ atR c 1 0 ∗ atR c 2 0 ∗ atR c 3 0 ∗ atR c 4 0 ∗ atR c 5 0 ∗ atR c 6 0 ∗ atR c 7 0 ∗ atR c 8 0 ∗ atR c 9 0 ∗ atR c 10 0) := by
  unfold positions; rw [bigSep_fin11]
theorem payToks_eq (c : Dev nD) : (payToks c : sProp 𝕄)
    = iprop(tok (peer c) 0 ∗ tok c 1 ∗ tok c 2 ∗ tok c 3 ∗ tok c 4 ∗ tok (peer c) 5 ∗ tok (peer c) 6 ∗ tok (peer c) 7 ∗ tok (peer c) 8 ∗ tok c 9 ∗ tok c 10) := by
  unfold payToks; rw [bigSep_fin11]; rfl

section Body

/-- The eleven cells close: their counters are back, at zero. -/
theorem close_cells (K : Dev nD × Fin 11 → ℕ) (c : Dev nD) :
    iprop(records m ρ K ∗ bigSep Finset.univ fun k : Fin 11 => (atR c k 1 : sProp 𝕄)) ⊢ |={Set.univ}=> zeros c := by
  unfold zeros
  refine BI.Entails.trans ?_ (bigSep_fupd _ _)
  refine bigSep_with_persistent fun k _ => ?_
  exact (sep_mono_left (inv_at m ρ K c k)).trans
    (Rounds.cell_close ER (sched m ρ) (Set.mem_univ (K (c, k))) (fun h => h) (R := 0 + 1) (duties_later m ρ (kcell (c, k))))

def bodyPre (K : Dev nD × Fin 11 → ℕ) (c : Dev nD) : sProp 𝕄 :=
  iprop(records m ρ K ∗ positions c ∗ payToks c ∗ credits c ∗ weights m ρ c ∗ anyScratch c
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m ρ c ∗ (dats m ρ 0 c).owesAt () t0_0.succ
    ∗ stg c cc0_stg0_0 (xs m ρ c) ∗ stg c cc0_stg1_0 (rs m ρ c) ∗ stg c cc0_stg2_0 (outAt m ρ c))

set_option maxHeartbeats 1600000 in
theorem sound_body (K : Dev nD × Fin 11 → ℕ) (c : Dev nD) (Kt : PUnit → sProp 𝕄) :
    iprop(bodyPre m ρ K c ∗ (bodyPost m ρ c -∗ Kt ⟨⟩))
      ⊢ wpB c (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11) Kt := by
  simp only [cc0_body_eq_skeleton]; unfold cc0_body_skel wpB
  simp only [Prog.lift, Prog.bind_op, Prog.bind_ret, Prog.pure_eq_ret, wp_bind]
  unfold bodyPre
  rw [positions_eq, payToks_eq]
  unfold credits weights anyScratch
  iintro ⟨⟨#HR, ⟨Hat0, Hat1, Hat2, Hat3, Hat4, Hat5, Hat6, Hat7, Hat8, Hat9, Hat10⟩,
    ⟨Ht0, Ht1, Ht2, Ht3, Ht4, Ht5, Ht6, Ht7, Ht8, Ht9, Ht10⟩, ⟨Hc0, Hc5, Hc6, Hc7, Hc8⟩, ⟨Ha2, Ha3⟩,
    ⟨H0, H1, H2, H3, H4, H5, H6, H7, H8⟩, Ho, ⟨%d0, %g0, %hg0, Hx⟩, ⟨%d1, %g1, %hg1, Hr⟩, ⟨%d2, %g2, %hg2, Hout⟩⟩, Hk⟩
  have hx : g0 = xs m ρ c := by rw [hg0]; unfold Dat.before; rw [if_pos (fetch_0 t0_0)]; rfl
  have hr : g1 = rs m ρ c := by rw [hg1]; unfold Dat.before; rw [if_pos (fetch_1 t0_0)]; rfl
  subst hx hr
  unfold Dat.owesAt Pipeline.owesWithin
  icases Ho with ⟨%W, %hW, HO⟩
  rw [show (dats m ρ 0 c).owed t0_0.castSucc = O₀ c from rfl]
  -- part 1
  iapply (part1_wp m ρ K c)
  isplitl [HO Hc0 Hat0 Ht9 Ht10 Ht0 Ht1 Ht5 Ha2 Ha3 H7 H8 H1 H3 H4 H6 Hr]
  · unfold pre1 landing ow
    isplitr; · iexact HR
    isplitl [HO]; · iexists W; iexact HO
    isplitl [Hc0]; · iexact Hc0
    isplitl [Hat0]; · iexact Hat0
    isplitl [Ht9]; · iexact Ht9
    isplitl [Ht10]; · iexact Ht10
    isplitl [Ht0]; · iexact Ht0
    isplitl [Ht1]; · iexact Ht1
    isplitl [Ht5]; · iexact Ht5
    isplitl [Ha2]; · iexact Ha2
    isplitl [Ha3]; · iexact Ha3
    isplitl [H7]; · iexact H7
    isplitl [H8]; · iexact H8
    isplitr [Hr]
    · isplitl [H4]; · iexact H4
      isplitl [H1]; · iexact H1
      isplitl [H3]; · iexact H3
      iexact H6
    iexact Hr
  unfold post1
  iintro ⟨HO, Hc9, Hc10, Hc1, Hat0, Hp1, Hp3, Hp6, Hl⟩
  -- part 2
  iapply (part2_wp m ρ K c)
  isplitl [HO Hc1 Hc5 Hat1 Hat5 Ht2 Ht6 Hx H0 Hp1 Hl]
  · unfold pre2
    isplitr; · iexact HR
    isplitl [HO]; · iexact HO
    isplitl [Hc1]; · iexact Hc1
    isplitl [Hc5]; · iexact Hc5
    isplitl [Hat1]; · iexact Hat1
    isplitl [Hat5]; · iexact Hat5
    isplitl [Ht2]; · iexact Ht2
    isplitl [Ht6]; · iexact Ht6
    isplitl [Hx]; · iexact Hx
    isplitl [H0]; · iexact H0
    isplitl [Hp1]; · iexact Hp1
    iexact Hl
  unfold post2
  iintro ⟨HO, Hc2, Hat1, Hat5, Hx, Hr, H0, H4⟩
  -- part 3
  iapply (part3_wp m ρ c)
  isplitl [H4 H2]
  · isplitl [H4] <;> iassumption
  iintro ⟨H4, H2⟩
  -- part 4
  iapply (part4_wp m ρ K c)
  isplitl [HO Hc9 Hc10 Hat9 Hat10 Ht3 Ht7 H2 Hp3]
  · unfold pre4
    isplitr; · iexact HR
    isplitl [HO]; · iexact HO
    isplitl [Hc9]; · iexact Hc9
    isplitl [Hc10]; · iexact Hc10
    isplitl [Hat9]; · iexact Hat9
    isplitl [Hat10]; · iexact Hat10
    isplitl [Ht3]; · iexact Ht3
    isplitl [Ht7]; · iexact Ht7
    isplitl [H2]; · iexact H2
    iexact Hp3
  unfold post4
  iintro ⟨HO, Hc3, Hat9, Hat10, Ha2, Ha3, H7, H8⟩
  -- part 5
  iapply (part5_wp m ρ K c)
  isplitl [HO Hc2 Hc6 Hat2 Hat6 H8 H0]
  · unfold pre5
    isplitr; · iexact HR
    isplitl [HO]; · iexact HO
    isplitl [Hc2]; · iexact Hc2
    isplitl [Hc6]; · iexact Hc6
    isplitl [Hat2]; · iexact Hat2
    isplitl [Hat6]; · iexact Hat6
    isplitl [H8]; · iexact H8
    iexact H0
  unfold post5
  iintro ⟨HO, Hat2, Hat6, H8, H0, H1⟩
  -- part 6
  iapply (part6_wp m ρ K c)
  isplitl [HO Hc3 Hc7 Hat3 Hat7 H5]
  · unfold pre6
    isplitr; · iexact HR
    isplitl [HO]; · iexact HO
    isplitl [Hc3]; · iexact Hc3
    isplitl [Hc7]; · iexact Hc7
    isplitl [Hat3]; · iexact Hat3
    isplitl [Hat7]; · iexact Hat7
    iexact H5
  unfold post6
  iintro ⟨HO, Hat3, Hat7, H2, H3, H5⟩
  -- the partial sums to the peer
  icases Hp6 with ⟨%f6, Hp6⟩
  rw [show O4 c = 0 + tallyAt (kcell (peer c, 8)) () (amt 8) from (zero_add _).symm]
  iapply (wp_send_cell m ρ K c _ (dev5_eq c) 4 8 (src := Memref.whole cc0_scratch5) (dst := Memref.whole cc0_scratch6) (fd := f6) (fs := pv m ρ c) (q := fullShare) rfl rfl
    (by rw [pt_view]; exact .refl)
    (by rw [pt_view]; simp only [Memref.view_whole, View.read_whole, View.write_whole_univ]
        rw [show pay m ρ (peer c) 8 = pt (peer c) cc0_scratch6 fullShare (pv m ρ (peer (peer c))) from rfl, peer_peer])
    0) $$ [H5 Hp6 HO Ht4 Ht8]
  · isplitr; · iexact HR
    isplitl [H5]; · rw [pt_view]; iexact H5
    isplitl [Hp6]; · rw [pt_view]; iexact Hp6
    isplitl [HO]; · iexact HO
    isplitl [Ht4] <;> iassumption
  iintro ⟨Hc4, HO⟩
  iapply (wp_wait_cell m ρ K c 4 (wpE_waitDma2_eq 𝒱₀ (c : Thread nD τ) none Set.univ) [] (by decide) 0 (fun g u h => absurd h (Nat.lt_irrefl 0))) $$ [Hc4 HO Hat4]
  · isplitr; · iexact HR
    isplitl [Hc4]; · iexact Hc4
    isplitl [HO] <;> iassumption
  iintro ⟨HO, Hat4, Hpay⟩
  ihave H5 := (Entails.of_eq (show pay m ρ c 4 = pt c cc0_scratch5 fullShare (pv m ρ c) from rfl)) $$ Hpay
  iapply (wp_wait_cell m ρ K c 8 (wpE_waitDma2_eq 𝒱₀ (c : Thread nD τ) none Set.univ) [] (by decide) 0 (fun g u h => absurd h (Nat.lt_irrefl 0))) $$ [Hc8 HO Hat8]
  · isplitr; · iexact HR
    isplitl [Hc8]; · iexact Hc8
    isplitl [HO] <;> iassumption
  iintro ⟨HO, Hat8, Hpay⟩
  ihave H6 := (Entails.of_eq (show pay m ρ c 8 = pt c cc0_scratch6 fullShare (pv m ρ (peer c)) from rfl)) $$ Hpay
  iapply (wp_load 𝒱₀ (c : Thread nD τ) none Set.univ (m := Memref.whole cc0_scratch6) (Finset.subset_univ _)) $$ H6; iintro H6
  rw [rd_s6]
  iapply (wp_load 𝒱₀ (c : Thread nD τ) none Set.univ (m := Memref.whole cc0_stg2_0) (Finset.subset_univ _)) $$ Hout; iintro Hout
  iapply (wp_store 𝒱₀ (c : Thread nD τ) none Set.univ (m := Memref.whole cc0_stg2_0) (r := rX) (Mk := Finset.univ) (Finset.subset_univ _)) $$ Hout; iintro Hout
  rw [wr_stg2, wp_ret]
  imod (close_cells m ρ K c) $$ [Hat0 Hat1 Hat2 Hat3 Hat4 Hat5 Hat6 Hat7 Hat8 Hat9 Hat10] with Hz
  · isplitr; · iexact HR
    rw [bigSep_fin11]
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9] <;> iassumption
  imodintro
  iapply Hk
  unfold bodyPost Φ₁ Dat.owesAt Pipeline.owesWithin weights anyScratch ow
  rw [show (dats m ρ 0 c).owed t0_0.succ = 0 from rfl]
  icases HO with ⟨%W', HO⟩
  isplitl [Hz Ha2 Ha3 H0 H1 H2 H3 H4 H5 H6 H7 H8]
  · isplitl [Hz]; · iexact Hz
    isplitl [Ha2 Ha3]; · isplitl [Ha2] <;> iassumption
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ wpB c (cc0_body (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _)
          (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scratch10 cc0_scratch11) (fun _ => bodyPost m ρ c)
  unfold bodyPre' Φ₀ start ghost
  iintro ⟨⟨⟨⟨%K, #HR, Hat, Htok⟩, Hcr, Hlev, Hw⟩, Hscr⟩, Ho, Hx, Hr, Hout⟩
  iapply (sound_body m ρ K c fun _ => bodyPost m ρ c)
  unfold bodyPre
  isplitl
  · isplitl [Hlev]
    · unfold records recs
      icases HR with ⟨HI, HV⟩
      isplitr; · iexact HI
      isplitr; · iexact HV
      iexact Hlev
    isplitl [Hat]; · iexact Hat
    isplitl [Htok]; · iexact Htok
    isplitl [Hcr]; · iexact Hcr
    isplitl [Hw]; · iexact Hw
    isplitl [Hscr]; · iexact Hscr
    isplitl [Ho]; · iexact Ho
    isplitl [Hx]; · iexact Hx
    isplitl [Hr] <;> iassumption
  · iintro H; iexact H

end Body

/-! ## The launch -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

abbrev tokOf (ck : Dev nD × Fin 11) : GSem nD τ sig × ℕ × Unit := (kcell ck, 0, ())
theorem tokOf_injective : Function.Injective tokOf := fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun k : Fin 11 => (tok c k : sProp 𝕄)

/-- What the launch element deals device `c`. -/
def G (c : Dev nD) : sProp 𝕄 :=
  iprop((bigSep Finset.univ fun k : Fin 11 => roundState ER (sched m ρ) (kcell (c, k)) 0)
    ∗ (positions c ∗ bigSep Finset.univ fun k : Fin 11 => (reached ER (kcell (c, k)) 0 : sProp 𝕄)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 11 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · unfold positions; iexact Hat'
    iexact Hr'
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    (iprop(unscopedSems0 c ∗ Pipeline.ownSems0 (Ix := Unit) (Name := ℕ) (U := UU) (Lvl := ℕ) (Val := Elt F) (τ := τ) osem c) : sProp 𝕄)
      = zeros c := by
  unfold zeros; rw [ownSems0_eq, unscopedSems0_eq, bigSep_fin11]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (positions c ∗ bigSep Finset.univ fun k : Fin 11 => (reached ER (kcell (c, k)) 0 : sProp 𝕄)) ∗ toks c) := by
  unfold G
  iintro ⟨Hos, Hus, Hst, Hat, Htok⟩
  ihave Hv := (Entails.of_eq (sems0_eq (F := F) c)) $$ [Hos Hus]
  · isplitl [Hus] <;> iassumption
  imod (show iprop(zeros c ∗ bigSep Finset.univ fun k : Fin 11 => roundState ER (sched m ρ) (kcell (c, k)) 0)
      ⊢ (|={Set.univ}=> bigSep Finset.univ fun k => iprop(∃ κ : ℕ, cellInv ER (sched m ρ) κ (kcell (c, k))) : sProp 𝕄) from by
        unfold zeros
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Dealing each cell's token to the device that pays it. -/
def deal : (Dev nD × Fin 11) ≃ (Dev nD × Fin 11) where
  toFun ck := (tgt ck.1 ck.2, ck.2)
  invFun ck := (tgt ck.1 ck.2, ck.2)
  left_inv := by rintro ⟨c, k⟩; unfold tgt; dsimp only; split <;> simp [peer_peer]
  right_inv := by rintro ⟨c, k⟩; unfold tgt; dsimp only; split <;> simp [peer_peer]

theorem toks_around : (bigSep Finset.univ fun c : Dev nD => (toks c : sProp 𝕄)) ⊢ bigSep Finset.univ fun c : Dev nD => payToks c := by
  refine Entails.of_eq ?_
  unfold toks payToks
  rw [← bigSep_univ_prod (fun ck : Dev nD × Fin 11 => (tok ck.1 ck.2 : sProp 𝕄)),
    ← bigSep_univ_prod (fun ck : Dev nD × Fin 11 => (tok (tgt ck.1 ck.2) ck.2 : sProp 𝕄)),
    bigSep_univ_equiv deal (fun ck : Dev nD × Fin 11 => (tok ck.1 ck.2 : sProp 𝕄))]
  rfl

theorem regroup :
    (bigSep Finset.univ fun c : Dev nD => iprop((bigSep Finset.univ fun k => iprop(∃ κ : ℕ, cellInv ER (sched m ρ) κ (kcell (c, k))))
          ∗ (positions c ∗ bigSep Finset.univ fun k : Fin 11 => (reached ER (kcell (c, k)) 0 : sProp 𝕄)) ∗ toks c) : sProp 𝕄)
      ⊢ bigSep Finset.univ (ghost m ρ) := by
  rw [bigSep_sep', bigSep_sep', bigSep_sep', ← bigSep_univ_prod (fun ck : Dev nD × Fin 11 => iprop(∃ κ : ℕ, cellInv ER (sched m ρ) κ (kcell ck))),
    ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (sched m ρ) κ (kcell ck) : sProp 𝕄))) $$ HI
  icases HK with ⟨%K, #HI⟩
  ihave Htk := (toks_around (F := F)) $$ Htok
  iapply (bigSep_with_persistent (R := recs m ρ K) (S := Finset.univ) (Φ := fun c : Dev nD => iprop(positions c ∗ payToks c)) (Ψ := ghost m ρ) fun c _ => (by
    unfold ghost
    iintro ⟨#H, Ha, Ht⟩
    iexists K
    isplitr; · iexact H
    isplitl [Ha] <;> iassumption))
  isplitr
  · unfold recs; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ### The credit of what the peer owes -/

theorem tally_cell (d c : Dev nD) (j k : Fin 11) (n : ℕ) :
    (tallyAt (kcell (peer d, j)) () n : CellTallies nD τ sig Unit) (kcell (c, k)) () = if d = peer c ∧ k = j then n else 0 := by
  rw [tallyAt_apply]
  refine if_congr ?_ rfl rfl
  constructor
  · rintro ⟨h, -⟩
    have h' := kcell_injective h
    exact ⟨by rw [(Prod.mk.inj h').1, peer_peer], (Prod.mk.inj h').2⟩
  · rintro ⟨h1, h2⟩
    exact ⟨by rw [h1, h2, peer_peer], rfl⟩

theorem owed_cell (d c : Dev nD) (k : Fin 11) (hk : k ∈ ([0, 5, 6, 7, 8] : List (Fin 11))) :
    O₀ d (kcell (c, k)) () = if d = peer c then amt k else 0 := by
  unfold O₀ O1 O2 O3 O4
  simp only [Pi.add_apply, Finsupp.add_apply, tally_cell]
  by_cases h : d = peer c
  · simp only [h, true_and, if_true]
    simp only [List.mem_cons, List.mem_nil_iff, or_false] at hk
    rcases hk with rfl | rfl | rfl | rfl | rfl <;> simp
  · simp only [h, false_and, if_false]

theorem launch_cell (c : Dev nD) (k : Fin 11) (hk : k ∈ ([0, 5, 6, 7, 8] : List (Fin 11))) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_cell d c k hk,
    Finset.sum_ite_eq' Finset.univ (peer c) fun _ => amt k, if_pos (Finset.mem_univ _)]

theorem creds (c : Dev nD) : (Pipeline.launchCred O₀ c : sProp 𝕄) ⊢ credits c := by
  unfold Pipeline.launchCred credits
  refine (bigSep_subset (t := (Finset.univ.filter fun k : Fin 11 => k ∈ ([0, 5, 6, 7, 8] : List (Fin 11))).map ⟨csem, csem_injective⟩) (Finset.subset_univ _)).trans ?_
  rw [bigSep_map]
  refine (Entails.of_eq (bigSep_congr (Ψ := fun k => (crd c k : sProp 𝕄))
    (fun k hk => congrArg cred (launch_cell c k (Finset.mem_filter.mp hk).2)))).trans ?_
  exact Entails.of_eq (bigSep_eq_bigSepL_of_eq [0, 5, 6, 7, 8] (by decide) (by decide) _)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start weights
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyScratch
  iintro ⟨Hs, -, Hr⟩
  isplitl [Hs]; · iexact Hs
  iexact Hr

theorem phi1_exit (c : Dev nD) :
    (dats m ρ 0 c).Φ (Fin.last cfg0.N) ⊢ iprop((unscopedSems0 c ∗ weights m ρ c) ∗ Pipeline.ownSems0 osem c ∗ Pipeline.scopedRest cfg0.spec c) := by
  rw [show (dats m ρ 0 c).Φ (Fin.last cfg0.N) = Φ₁ m ρ c from rfl, scopedRest0_eq]
  unfold Φ₁ anyScratch
  rw [← sems0_eq]
  iintro ⟨⟨HB, Ho⟩, Hw, Hr⟩
  isplitl [HB Hw]
  · isplitl [HB] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hO : OwesOnly c [0, 5, 6, 7, 8] ((dats m ρ 0 c).owed t) := by
      rcases t with ⟨_ | _, ht⟩
      · exact owesOnly0 c
      · exact fun g u h => absurd h (Nat.lt_irrefl 0)
    refine mayWait_of c _ 0 (show (slot ((SemLoc.dma ((cfg0.win w).sem s)) : SemLoc sig)).elim 0 lvk ≤ 0 from ?_) _ (by decide) _ hO
    fin_cases w <;> fin_cases s <;> decide

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ weights m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold weights
      iintro ⟨⟨Hu, Ha2, Ha3⟩, -, HSI⟩
      icombine HSI Ha2 gives %h2
      icombine HSI Ha3 gives %h3
      imod (Pipeline.unscopedSems0_read (X := unscopedSems0 c) (c := c) fupd_intro s') $$ [Hu HSI] with ⟨%hs, HSI⟩
      · isplitl [Hu] <;> iassumption
      imodintro
      isplitr
      · ipureintro
        exact ⟨hs, Buf.eq_of_forall_mem_univ h2, Buf.eq_of_forall_mem_univ h3⟩
      iexact HSI)
    (hQ := fun _ h hs => ⟨fun c => ⟨fun w => (h c).1 w, (h c).2.2.2⟩, sem_eq_zero hs fun c => (h c).2.2.1⟩)

/-- The argument arrays the pipeline reads hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_r (c : Dev nD) : finalA m ρ c (1 : Fin 3) = (s₀ m ρ).mem (win0_1.arr.view.loc (c : Thread nD τ)) :=
  (dats (F := F) m ρ 0 c).arrAt_in (1 : Fin 3) rfl _

end Cert.KernelIdeal.Run

end
-- ==== Proof.Frames.lean ====
/-
  The frames. Each program's run is already proved: the kernel's in `Kernel.Launch` and `KernelIdeal.Launch` — the same
  text at the two instances — and the reference's by its generated run. Here each is read at its argument arrays: the
  pipeline only reads the first two, the kernel only copies out of the last two.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- Every device of the kernel, over the words of the machine: it runs, its arguments are what they were, and every
    semaphore counter is back at zero. -/
theorem frame_kernel : Cert.quiescent_Kernel := fun m ρ _ =>
  (θ_run Cert.Kernel.defs _ _).mono
    (fun _ h => ⟨fun c => ⟨((h.1 c).1 (0 : Fin 3)).trans (Cert.Kernel.Run.finalA_x m ρ c),
      ((h.1 c).1 (1 : Fin 3)).trans (Cert.Kernel.Run.finalA_r m ρ c), (h.1 c).2⟩, h.2⟩)
    (Cert.Kernel.Run.run_main (F := Bits) m ρ)

/-- The same of the idealized kernel, over extended reals. -/
theorem frame_kernelIdeal : Cert.quiescent_KernelIdeal := fun m ρ _ =>
  (θ_run Cert.KernelIdeal.defs _ _).mono
    (fun _ h => ⟨fun c => ⟨((h.1 c).1 (0 : Fin 3)).trans (Cert.KernelIdeal.Run.finalA_x m ρ c),
      ((h.1 c).1 (1 : Fin 3)).trans (Cert.KernelIdeal.Run.finalA_r m ρ c), (h.1 c).2⟩, h.2⟩)
    (Cert.KernelIdeal.Run.run_main (F := Ideal) m ρ)

/-- The reference runs on one device and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one rewrite: the mask `-1e30`, which stands for minus infinity, is named and read as minus infinity. -/
theorem preserves : Cert.preserves_Kernel_KernelIdeal := by
  exact IdealRules.named_const.statement _ _ _ _ _ rfl

end Cert.Proof

end
-- ==== Proof.Value.Routing.lean ====
/-
  The routing of one row, as arithmetic on its four gates: the weight the kernel gives an expert, and that it is the
  softmax over the two greatest gates whenever the three greatest differ and the greatest isn't plus infinity.
-/
module

public import Idealize.ShloMosaic.PureOps
public import Idealize.ShloMosaic.PureOps.Ideal.Laws
public import Mathlib.Tactic.FinCases
public import Mathlib.Tactic.Abel

@[expose] public section

noncomputable section

namespace Cert.Routing

open Idealize.ShloMosaic

/-- The greatest of four gates, as the kernel takes it. -/
def top (a b c d : EReal) : EReal := max (max a b) (max c d)

/-- A gate, or minus infinity where it is the greatest. -/
def rest (m g : EReal) : EReal := if g = m then ⊥ else g

/-- The greatest of the gates that remain. -/
def second (a b c d : EReal) : EReal :=
  max (max (rest (top a b c d) a) (rest (top a b c d) b)) (max (rest (top a b c d) c) (rest (top a b c d) d))

/-- The kernel's weight of a gate `g` beside the greatest `m` and the second `s`. -/
def share (m s g : EReal) : EReal := Ideal.div (if s ≤ g then Ideal.exp (g - m) else 0) (1 + Ideal.exp (s - m))

/-- The kernel's weight of a gate `g` among four. -/
def weight (a b c d g : EReal) : EReal := share (top a b c d) (second a b c d) g

/-- Exchanging the two pairs of gates changes nothing. -/
theorem weight_swap (a b c d g : EReal) : weight c d a b g = weight a b c d g := by
  have ht : top c d a b = top a b c d := max_comm _ _
  have hs : second c d a b = second a b c d := by
    unfold second
    rw [ht]
    exact max_comm _ _
  unfold weight
  rw [ht, hs]

/-- The softmax over two gates `a` and `b`, at a gate `g` of theirs. -/
def soft (a b g : EReal) : EReal :=
  Ideal.div (Ideal.exp (g - max a b)) (Ideal.exp (a - max a b) + Ideal.exp (b - max a b))

/-- The exponential of zero. -/
theorem exp_zero : Ideal.exp 0 = 1 := by
  show ((Real.exp 0 : ℝ) : EReal) = 1
  rw [Real.exp_zero, EReal.coe_one]

/-- The exponential is never negative. -/
theorem exp_nonneg (x : EReal) : 0 ≤ Ideal.exp x := by
  induction x with
  | bot => exact le_rfl
  | top => exact le_top
  | coe r => exact EReal.coe_nonneg.mpr (Real.exp_pos r).le

/-- Each of four is at most their maximum. -/
theorem le_max_four (f : Fin 4 → EReal) (e : Fin 4) : f e ≤ max (max (f 0) (f 1)) (max (f 2) (f 3)) := by
  fin_cases e
  · exact (le_max_left _ _).trans (le_max_left _ _)
  · exact (le_max_right _ _).trans (le_max_left _ _)
  · exact (le_max_left _ _).trans (le_max_right _ _)
  · exact (le_max_right _ _).trans (le_max_right _ _)

/-- The row's hypothesis: an order of the four experts by their gates, the three greatest gates apart and the greatest
    below plus infinity. -/
structure Sorted (g : Fin 4 → EReal) (σ : Fin 4 → Fin 4) : Prop where
  inj : Function.Injective σ
  lt_top : g (σ 0) < ⊤
  lt_first : g (σ 1) < g (σ 0)
  lt_second : g (σ 2) < g (σ 1)
  le_third : g (σ 3) ≤ g (σ 2)

namespace Sorted

variable {g : Fin 4 → EReal} {σ : Fin 4 → Fin 4} (h : Sorted g σ)

include h

/-- Each expert stands at one of the first two places, or its gate is below the second. -/
theorem place_of (e : Fin 4) : e = σ 0 ∨ e = σ 1 ∨ (e ≠ σ 0 ∧ e ≠ σ 1 ∧ g e < g (σ 1)) := by
  obtain ⟨k, rfl⟩ := (Finite.injective_iff_surjective.mp h.inj) e
  have h2 : ∀ j, σ k = σ j → k = j := fun j hj => h.inj hj
  fin_cases k
  · exact Or.inl rfl
  · exact Or.inr (Or.inl rfl)
  · exact Or.inr (Or.inr ⟨fun e => absurd (h2 _ e) (by decide), fun e => absurd (h2 _ e) (by decide), h.lt_second⟩)
  · exact Or.inr (Or.inr ⟨fun e => absurd (h2 _ e) (by decide), fun e => absurd (h2 _ e) (by decide),
      h.le_third.trans_lt h.lt_second⟩)

/-- The greatest gate. -/
theorem top_eq : top (g 0) (g 1) (g 2) (g 3) = g (σ 0) := by
  have hle : ∀ e, g e ≤ g (σ 0) := fun e => by
    rcases h.place_of e with rfl | rfl | ⟨-, -, hlt⟩
    · exact le_rfl
    · exact h.lt_first.le
    · exact (hlt.trans h.lt_first).le
  exact le_antisymm (max_le (max_le (hle _) (hle _)) (max_le (hle _) (hle _))) (le_max_four g (σ 0))

/-- The second greatest gate. -/
theorem second_eq : second (g 0) (g 1) (g 2) (g 3) = g (σ 1) := by
  unfold second
  rw [h.top_eq]
  have hle : ∀ e, rest (g (σ 0)) (g e) ≤ g (σ 1) := fun e => by
    unfold rest
    split
    · exact bot_le
    · next hne =>
      rcases h.place_of e with rfl | rfl | ⟨-, -, hlt⟩
      · exact absurd rfl hne
      · exact le_rfl
      · exact hlt.le
  have hge := le_max_four (fun e => rest (g (σ 0)) (g e)) (σ 1)
  have hr : rest (g (σ 0)) (g (σ 1)) = g (σ 1) := if_neg h.lt_first.ne
  rw [hr] at hge
  exact le_antisymm (max_le (max_le (hle _) (hle _)) (max_le (hle _) (hle _))) hge

/-- The second gate isn't minus infinity. -/
theorem bot_lt : ⊥ < g (σ 1) := bot_le.trans_lt h.lt_second

/-- The greatest gate is a real number, so its distance to itself is zero. -/
theorem exp_self : Ideal.exp (g (σ 0) - g (σ 0)) = 1 := by
  have h0 : g (σ 0) ≠ ⊥ := (h.bot_lt.trans h.lt_first).ne'
  rw [EReal.sub_self h.lt_top.ne h0]
  exact exp_zero

/-- From the second gate up, the weight is the softmax over the two greatest gates. -/
theorem weight_of_ge (e : Fin 4) (he : g (σ 1) ≤ g e) :
    weight (g 0) (g 1) (g 2) (g 3) (g e) = soft (g (σ 0)) (g (σ 1)) (g e) := by
  unfold weight share soft
  rw [h.top_eq, h.second_eq, if_pos he, max_eq_left h.lt_first.le, h.exp_self]

/-- Below the second gate the weight is zero. -/
theorem weight_of_lt (e : Fin 4) (he : g e < g (σ 1)) : weight (g 0) (g 1) (g 2) (g 3) (g e) = 0 := by
  unfold weight share
  rw [h.top_eq, h.second_eq, if_neg (not_le.mpr he)]
  have hpos : (0 : EReal) < 1 + Ideal.exp (g (σ 1) - g (σ 0)) :=
    zero_lt_one.trans_le (le_add_of_nonneg_right (exp_nonneg _))
  unfold Ideal.div
  rw [if_neg hpos.ne', zero_mul]

/-- An expert's weighted output is the sum, over the two places, of its output times that place's softmax where it
    stands there. -/
theorem term (y : EReal) (e : Fin 4) :
    y * weight (g 0) (g 1) (g 2) (g 3) (g e)
      = (if σ 0 = e then y * soft (g (σ 0)) (g (σ 1)) (g (σ 0)) else 0)
        + (if σ 1 = e then y * soft (g (σ 0)) (g (σ 1)) (g (σ 1)) else 0) := by
  have h01 : σ 0 ≠ σ 1 := fun e => absurd (h.inj e) (by decide)
  rcases h.place_of e with rfl | rfl | ⟨h0, h1, hlt⟩
  · rw [if_pos rfl, if_neg h01.symm, add_zero, h.weight_of_ge _ h.lt_first.le]
  · rw [if_pos rfl, if_neg h01, zero_add, h.weight_of_ge _ le_rfl]
  · rw [if_neg h0.symm, if_neg h1.symm, add_zero, h.weight_of_lt _ hlt, mul_zero]

end Sorted

/-- The reference's sum: place by place, and at each place expert by expert. -/
def routed (σ : Fin 4 → Fin 4) (p : Fin 2 → EReal) (y : Fin 4 → EReal) : EReal :=
  (((((((if σ 0 = 0 then y 0 * p 0 else 0) + (if σ 0 = 1 then y 1 * p 0 else 0)) + (if σ 0 = 2 then y 2 * p 0 else 0))
    + (if σ 0 = 3 then y 3 * p 0 else 0)) + (if σ 1 = 0 then y 0 * p 1 else 0)) + (if σ 1 = 1 then y 1 * p 1 else 0))
    + (if σ 1 = 2 then y 2 * p 1 else 0)) + (if σ 1 = 3 then y 3 * p 1 else 0)

/-- The kernel's sum of the four weighted outputs is the reference's. -/
theorem Sorted.sum {g : Fin 4 → EReal} {σ : Fin 4 → Fin 4} (h : Sorted g σ) (y : Fin 4 → EReal) :
    (y 0 * weight (g 0) (g 1) (g 2) (g 3) (g 0) + y 1 * weight (g 0) (g 1) (g 2) (g 3) (g 1))
        + (y 2 * weight (g 0) (g 1) (g 2) (g 3) (g 2) + y 3 * weight (g 0) (g 1) (g 2) (g 3) (g 3))
      = routed σ ![soft (g (σ 0)) (g (σ 1)) (g (σ 0)), soft (g (σ 0)) (g (σ 1)) (g (σ 1))] y := by
  rw [h.term, h.term, h.term, h.term]
  show _ = (((((((if σ 0 = 0 then y 0 * soft (g (σ 0)) (g (σ 1)) (g (σ 0)) else 0)
    + (if σ 0 = 1 then y 1 * soft (g (σ 0)) (g (σ 1)) (g (σ 0)) else 0))
    + (if σ 0 = 2 then y 2 * soft (g (σ 0)) (g (σ 1)) (g (σ 0)) else 0))
    + (if σ 0 = 3 then y 3 * soft (g (σ 0)) (g (σ 1)) (g (σ 0)) else 0))
    + (if σ 1 = 0 then y 0 * soft (g (σ 0)) (g (σ 1)) (g (σ 1)) else 0))
    + (if σ 1 = 1 then y 1 * soft (g (σ 0)) (g (σ 1)) (g (σ 1)) else 0))
    + (if σ 1 = 2 then y 2 * soft (g (σ 0)) (g (σ 1)) (g (σ 1)) else 0))
    + (if σ 1 = 3 then y 3 * soft (g (σ 0)) (g (σ 1)) (g (σ 1)) else 0)
  abel

end Cert.Routing
end
-- ==== Proof.Value.Kernel.lean ====
/-
  The kernel's result, element by element, over extended reals: what a device's body leaves in the result's block is, at
  row `i` and column `j`, the sum over the four experts of the expert's value times the kernel's weight — the device's
  own two experts in the body's own product, the peer's two in the product that came back over the mesh.
-/
module

public import proofs.«01_k».proof.Proof.Value.Routing
public import proofs.«01_k».proof.Proof.KernelIdeal.Launch
public import Idealize.ShloMosaic.Lib.Pointwise
public import Idealize.ShloMosaic.Lib.Pipeline.ValueKit

@[expose] public section

noncomputable section

namespace Cert.KernelIdeal.Run

open Idealize.ShloMosaic Idealize.SL.Sem Cert.KernelIdeal.Gen Cert.Routing

/-! ## The routing weights -/

section
variable (x : FVec Ideal S256x512 .f32) (g : FVec Ideal S256x2 .f32) (r : FVec Ideal S512x2 .f32) (i : Fin 256)

/-- The product of row `i` with column `e` of the peer's router. -/
def gate (x : FVec Ideal S256x512 .f32) (r : FVec Ideal S512x2 .f32) (i : Fin 256) (e : Fin 2) : EReal := ∑ k : Fin 512, x (ix2 i k) * r (ix2 k e)

theorem pay6_apply : k0_pay6 g (ix2 i 0) = g (ix2 i 0) := by pointwise [k0_pay6]
theorem pay7_apply : k0_pay7 g (ix2 i 0) = g (ix2 i 1) := by pointwise [k0_pay7]
theorem pay8_apply : k0_pay8 x r (ix2 i 0) = gate x r i 0 := by pointwise [k0_pay8, k0_pay5]; rfl
theorem pay9_apply : k0_pay9 x r (ix2 i 0) = gate x r i 1 := by pointwise [k0_pay9, k0_pay5]; rfl

theorem pay10_apply : k0_pay10 x g r (ix2 i 0) = top (g (ix2 i 0)) (g (ix2 i 1)) (gate x r i 0) (gate x r i 1) := by
  pointwise [k0_pay10]
  rw [pay6_apply, pay7_apply, pay8_apply, pay9_apply]; rfl

/-- The named mask is minus infinity. -/
theorem mask_eq : Named.named (F := Ideal) κ "mask" (φ := .f32) 0xF149F2CA#32 = (⊥ : EReal) :=
  IdealRules.named_const.ideal_named_scalar _ _ _ _ rfl

theorem pay11_apply : k0_pay11 x g r (ix2 i 0) = second (g (ix2 i 0)) (g (ix2 i 1)) (gate x r i 0) (gate x r i 1) := by
  pointwise [k0_pay11]
  rw [pay6_apply, pay7_apply, pay8_apply, pay9_apply, pay10_apply, mask_eq]; rfl

theorem pay13_apply : k0_pay13 x g r (ix2 i 0) = weight (g (ix2 i 0)) (g (ix2 i 1)) (gate x r i 0) (gate x r i 1) (g (ix2 i 0)) := by
  pointwise [k0_pay13, k0_pay12]
  rw [pay6_apply, pay10_apply, pay11_apply]; rfl
theorem pay14_apply : k0_pay14 x g r (ix2 i 0) = weight (g (ix2 i 0)) (g (ix2 i 1)) (gate x r i 0) (gate x r i 1) (g (ix2 i 1)) := by
  pointwise [k0_pay14, k0_pay12]
  rw [pay7_apply, pay10_apply, pay11_apply]; rfl
theorem pay15_apply : k0_pay15 x g r (ix2 i 0) = weight (g (ix2 i 0)) (g (ix2 i 1)) (gate x r i 0) (gate x r i 1) (gate x r i 0) := by
  pointwise [k0_pay15, k0_pay12]
  rw [pay8_apply, pay10_apply, pay11_apply]; rfl
theorem pay16_apply : k0_pay16 (k0_pay9 x r) (k0_pay10 x g r) (k0_pay11 x g r) (k0_pay12 x g r) (ix2 i 0)
    = weight (g (ix2 i 0)) (g (ix2 i 1)) (gate x r i 0) (gate x r i 1) (gate x r i 1) := by
  pointwise [k0_pay16, k0_pay12]
  rw [pay9_apply, pay10_apply, pay11_apply]; rfl
end

variable (m : (ℓ : Loc nD τ sig) → Buf (Elt Ideal) ℓ) (ρ : Dev nD → PrngReg) (c : Dev nD)

/-! ## The blocks as launched -/

/-- A device's blocks of the four arguments. -/
def X (c : Dev nD) : FVec Ideal S256x512 .f32 := m ((c.tc : Thread nD τ).loc main_arg0)
def R (c : Dev nD) : FVec Ideal S512x2 .f32 := m ((c.tc : Thread nD τ).loc main_arg1)
def U (c : Dev nD) : FVec Ideal S2x512x1024 .f32 := m ((c.tc : Thread nD τ).loc main_arg2)
def V (c : Dev nD) : FVec Ideal S2x1024x512 .f32 := m ((c.tc : Thread nD τ).loc main_arg3)

theorem xs_eq : xs m ρ c = X m c :=
  Memref.read_access_unit_zero (Elt Ideal) main_arg0
    (show (fun a => (win0_0.index t0_0) a * main_arg0.ty.shape.size a) = fun _ => 0 from
      funext fun a => by fin_cases a <;> decide) (fun a => by fin_cases a <;> decide) _
theorem rs_eq : rs m ρ c = R m c :=
  Memref.read_access_unit_zero (Elt Ideal) main_arg1
    (show (fun a => (win0_1.index t0_0) a * main_arg1.ty.shape.size a) = fun _ => 0 from
      funext fun a => by fin_cases a <;> decide) (fun a => by fin_cases a <;> decide) _
theorem xs_apply (i : Fin 256) (k : Fin 512) : xs m ρ c (ix2 i k) = X m c (ix2 i k) := congrFun (xs_eq m ρ c) _
theorem rs_apply (k : Fin 512) (e : Fin 2) : rs m ρ c (ix2 k e) = R m c (ix2 k e) := congrFun (rs_eq m ρ c) _
theorem l1a_apply (k : Fin 512) (f : Fin 1024) : l1a m ρ c (ix3 0 k f) = U m c (ix3 0 k f) := by
  rw [show l1a m ρ c = (Memref.whole cc0_scratch7 : Memref sig .tc _ _ _).view.readAt (Elt Ideal) rW1a.toLoadRect (w1 m ρ c) from rfl, View.readAt_eq_ld]; pointwise; rfl
theorem l1b_apply (k : Fin 512) (f : Fin 1024) : l1b m ρ c (ix3 0 k f) = U m c (ix3 1 k f) := by
  rw [show l1b m ρ c = (Memref.whole cc0_scratch7 : Memref sig .tc _ _ _).view.readAt (Elt Ideal) rW1b.toLoadRect (w1 m ρ c) from rfl, View.readAt_eq_ld]; pointwise; rfl
theorem l2a_apply (f : Fin 1024) (j : Fin 512) : l2a m ρ c (ix3 0 f j) = V m c (ix3 0 f j) := by
  rw [show l2a m ρ c = (Memref.whole cc0_scratch8 : Memref sig .tc _ _ _).view.readAt (Elt Ideal) rW2a.toLoadRect (w2 m ρ c) from rfl, View.readAt_eq_ld]; pointwise; rfl
theorem l2b_apply (f : Fin 1024) (j : Fin 512) : l2b m ρ c (ix3 0 f j) = V m c (ix3 1 f j) := by
  rw [show l2b m ρ c = (Memref.whole cc0_scratch8 : Memref sig .tc _ _ _).view.readAt (Elt Ideal) rW2b.toLoadRect (w2 m ρ c) from rfl, View.readAt_eq_ld]; pointwise; rfl
theorem lw0_apply (i : Fin 256) : lw0 m ρ c (ix2 i 0) = wC m ρ (peer c) (ix2 i 0) := by
  rw [show lw0 m ρ c = (Memref.whole cc0_scratch3 : Memref sig .tc _ _ _).view.readAt (Elt Ideal) rC0.toLoadRect (wv m ρ (peer c)) from rfl, View.readAt_eq_ld]; pointwise [wv]; rfl
theorem lw1_apply (i : Fin 256) : lw1 m ρ c (ix2 i 0) = wD m ρ (peer c) (ix2 i 0) := by
  rw [show lw1 m ρ c = (Memref.whole cc0_scratch3 : Memref sig .tc _ _ _).view.readAt (Elt Ideal) rC1.toLoadRect (wv m ρ (peer c)) from rfl, View.readAt_eq_ld]; pointwise [wv]; rfl

/-! ## The experts -/

/-- An expert of device `d` on row `i` of device `c`: its two matrices with a rectifier between them. -/
def expert (c d : Dev nD) (e : Fin 2) (i : Fin 256) (j : Fin 512) : EReal :=
  ∑ f : Fin 1024, max (∑ k : Fin 512, X m c (ix2 i k) * U m d (ix3 e k f)) 0 * V m d (ix3 e f j)

/-- The gate of row `i` of device `c` for expert `e` of device `d`. -/
def gateOf (c d : Dev nD) (e : Fin 2) (i : Fin 256) : EReal := ∑ k : Fin 512, X m c (ix2 i k) * R m d (ix2 k e)

/-- The kernel's weight of expert `e` of device `d` on row `i` of device `c`: among the device's own two gates and its peer's. -/
def weightOf (c d : Dev nD) (e : Fin 2) (i : Fin 256) : EReal :=
  weight (gateOf m c c 0 i) (gateOf m c c 1 i) (gateOf m c (peer c) 0 i) (gateOf m c (peer c) 1 i) (gateOf m c d e i)

theorem gate_xv (d : Dev nD) (e : Fin 2) (i : Fin 256) : gate (xv m ρ c) (rs m ρ d) i e = gateOf m c d e i := by
  unfold gate gateOf
  refine Finset.sum_congr rfl fun k _ => ?_
  pointwise [k0_pay3]
  rw [xs_apply, rs_apply]

theorem g01_apply (e : Fin 2) (i : Fin 256) : g01 m ρ c (ix2 i e) = gateOf m c c e i := by
  pointwise [k0_pay4, k0_pay3]
  simp only [gateOf, xs_apply, rs_apply]

theorem wA_apply (i : Fin 256) : wA m ρ c (ix2 i 0) = weightOf m c c 0 i := by
  refine (pay13_apply _ _ _ _).trans ?_
  rw [gate_xv, gate_xv, g01_apply, g01_apply]; rfl
theorem wB_apply (i : Fin 256) : wB m ρ c (ix2 i 0) = weightOf m c c 1 i := by
  refine (pay14_apply _ _ _ _).trans ?_
  rw [gate_xv, gate_xv, g01_apply, g01_apply]; rfl
theorem wC_apply (i : Fin 256) : wC m ρ c (ix2 i 0) = weightOf m c (peer c) 0 i := by
  refine (pay15_apply _ _ _ _).trans ?_
  rw [gate_xv, gate_xv, g01_apply, g01_apply]; rfl
theorem wD_apply (i : Fin 256) : wD m ρ c (ix2 i 0) = weightOf m c (peer c) 1 i := by
  refine (pay16_apply _ _ _ _).trans ?_
  rw [gate_xv, gate_xv, g01_apply, g01_apply]; rfl

theorem xb_apply (i : Fin 256) (k : Fin 512) : xb m ρ c (ix2 i k) = X m c (ix2 i k) := by
  unfold xb
  pointwise [k0_pay2]
  exact xs_apply m ρ c i k

theorem e1a_apply (k : Fin 512) (f : Fin 1024) : e1a m ρ c (ix2 k f) = U m c (ix3 0 k f) := by
  pointwise [k0_pay17]; exact l1a_apply m ρ c k f
theorem e1b_apply (k : Fin 512) (f : Fin 1024) : e1b m ρ c (ix2 k f) = U m c (ix3 1 k f) := by
  pointwise [k0_pay18]; exact l1b_apply m ρ c k f
theorem e2a_apply (f : Fin 1024) (j : Fin 512) : e2a m ρ c (ix2 f j) = V m c (ix3 0 f j) := by
  pointwise [k0_pay19]; exact l2a_apply m ρ c f j
theorem e2b_apply (f : Fin 1024) (j : Fin 512) : e2b m ρ c (ix2 f j) = V m c (ix3 1 f j) := by
  pointwise [k0_pay20]; exact l2b_apply m ρ c f j

/-- The device's own experts' part. -/
theorem mine_apply (i : Fin 256) (j : Fin 512) :
    mine m ρ c (ix2 i j) = expert m c c 0 i j * weightOf m c c 0 i + expert m c c 1 i j * weightOf m c c 1 i := by
  pointwise [k0_pay21, k0_pay20]
  simp only [xb_apply, e1a_apply, e1b_apply, e2a_apply, l2b_apply, wA_apply, wB_apply, expert]

/-- What device `c` sends back: its experts' part of the peer's rows. -/
theorem pv_apply (i : Fin 256) (j : Fin 512) :
    pv m ρ c (ix2 i j) = expert m (peer c) c 0 i j * weightOf m (peer c) c 0 i + expert m (peer c) c 1 i j * weightOf m (peer c) c 1 i := by
  unfold pv
  pointwise [k0_pay23, k0_pay22]
  simp only [xb_apply, e1a_apply, e1b_apply, e2a_apply, e2b_apply, lw0_apply, lw1_apply, wC_apply, wD_apply, peer_peer, expert]

/-- The device's rows of the result: the four experts, each with the kernel's weight. -/
theorem outAt_apply (i : Fin 256) (j : Fin 512) :
    outAt m ρ c (ix2 i j) = (expert m c c 0 i j * weightOf m c c 0 i + expert m c c 1 i j * weightOf m c c 1 i)
      + (expert m c (peer c) 0 i j * weightOf m c (peer c) 0 i + expert m c (peer c) 1 i j * weightOf m c (peer c) 1 i) := by
  unfold outAt
  pointwise [k0_pay1]
  rw [mine_apply, pv_apply, peer_peer]

/-- The result's array after the run: its one block is the whole array. -/
theorem finalA_out : finalA m ρ c (2 : Fin 3) = outAt m ρ c :=
  (dats m ρ 0 c).arrAt_eq_of_after_last (2 : Fin 3) t0_0 (by decide +kernel) (outAt m ρ c) (fun _ => rfl)

end Cert.KernelIdeal.Run
end
-- ==== Proof.Value.Argsort.lean ====
/-
  The argsort of a row of four and the gather along it, read at an index.

  The sort carries the column numbers along; what it leaves at column `k` is the word of the column whose element it
  moved there (`order`). A gather by those words, through the index arithmetic and the range check that the array
  library prints around it, reads the operand at that column.
-/
module

public import proofs.«01_k».proof.Proof.Value.Routing
public import Idealize.ShloMosaic.Lib.Pointwise
public import Idealize.ShloMosaic.Lib.SortFacts

@[expose] public section

noncomputable section

namespace Cert.Routing

open Idealize.ShloMosaic

/-- The gate of row `r` and expert `e`: the product of the inputs' row and the router's column. -/
def gate (x : (⟨2, ![512, 512]⟩ : Shape).Idx → EReal) (w : (⟨2, ![512, 4]⟩ : Shape).Idx → EReal) (r : Fin 512) (e : Fin 4) : EReal :=
  ∑ k : Fin 512, x (ix2 r k) * w (ix2 k e)

/-- Expert `e`'s output for row `r`: the first layer, its negative entries cut off, through the second. -/
def expertOut (x : (⟨2, ![512, 512]⟩ : Shape).Idx → EReal) (u : (⟨3, ![4, 512, 1024]⟩ : Shape).Idx → EReal)
    (v : (⟨3, ![4, 1024, 512]⟩ : Shape).Idx → EReal) (r j : Fin 512) (e : Fin 4) : EReal :=
  ∑ f : Fin 1024, max (∑ k : Fin 512, x (ix2 r k) * u (ix3 e k f)) 0 * v (ix3 e f j)

/-- The column whose gate stands at place `k` once the row is sorted from the greatest gate down. -/
def order (g : Fin 4 → EReal) : Fin 4 → Fin 4 := sortedFrom (fun k k' => decide (g k' < g k))

theorem order_injective (g : Fin 4 → EReal) : Function.Injective (order g) := sortedFrom_injective _

/-- A later place never holds a greater gate. -/
theorem order_antitone (g : Fin 4 → EReal) (i j : Fin 4) (h : i < j) : g (order g j) ≤ g (order g i) := by
  have := sortedFrom_noInversion (fun k k' => decide (g k' < g k)) (fun k k' => decide (g k' < g k))
    (fun a b h => by simp only [decide_eq_true_eq, decide_eq_false_iff_not, not_lt] at h ⊢; exact h.le) (fun _ _ h => h)
    (fun a b c h₁ h₂ => by
      simp only [decide_eq_false_iff_not, not_lt] at h₁ h₂ ⊢; exact h₁.trans h₂) i j h
  simpa [order] using this

/-- The carried column numbers after the sort, for any comparator that compares the negated gates. -/
theorem sort_columns {R : Nat} (cmp : EReal × BitVec 32 → EReal × BitVec 32 → BitVec 1)
    (hcmp : ∀ x y a b, (cmp (x, a) (y, b) == 1#1) = decide (x < y)) (v : (⟨2, ![R, 4]⟩ : Shape).Idx → EReal) (r : Fin R) (k : Fin 4) :
    (Host.sort2 ⟨2, ![R, 4]⟩ 1 cmp (fun i => -v i) (iotaInDim ⟨2, ![R, 4]⟩ 32 1)).2 (ix2 r k)
      = BitVec.ofNat 32 (order (fun e => v (ix2 r e)) k).val := by
  have hal : ∀ e : Fin 4, (ix2 r k : (⟨2, ![R, 4]⟩ : Shape).Idx).along (1 : Fin 2) e = ix2 r e := fun e => by
    funext a; unfold Shape.Idx.along; fin_cases a
    · rfl
    · rfl
  unfold Host.sort2
  rw [dif_pos (show 1 < (⟨2, ![R, 4]⟩ : Shape).rank from Nat.one_lt_two)]
  have hb : (fun a b : Fin 4 => cmp (-v ((ix2 r k : (⟨2, ![R, 4]⟩ : Shape).Idx).along (1 : Fin 2) a),
        iotaInDim ⟨2, ![R, 4]⟩ 32 1 ((ix2 r k : (⟨2, ![R, 4]⟩ : Shape).Idx).along (1 : Fin 2) a))
      (-v ((ix2 r k : (⟨2, ![R, 4]⟩ : Shape).Idx).along (1 : Fin 2) b),
        iotaInDim ⟨2, ![R, 4]⟩ 32 1 ((ix2 r k : (⟨2, ![R, 4]⟩ : Shape).Idx).along (1 : Fin 2) b)) == 1#1)
      = fun a b => decide (v (ix2 r b) < v (ix2 r a)) := by
    funext a b
    rw [hcmp, hal, hal]
    exact decide_eq_decide.mpr EReal.neg_lt_neg_iff
  show iotaInDim ⟨2, ![R, 4]⟩ 32 1 ((ix2 r k : (⟨2, ![R, 4]⟩ : Shape).Idx).along (1 : Fin 2) (sortedFrom _ k)) = _
  refine (congrArg (fun p => iotaInDim ⟨2, ![R, 4]⟩ 32 1 ((ix2 r k : (⟨2, ![R, 4]⟩ : Shape).Idx).along (1 : Fin 2)
    (sortedFrom p k))) hb).trans ?_
  show iotaInDim ⟨2, ![R, 4]⟩ 32 1 ((ix2 r k : (⟨2, ![R, 4]⟩ : Shape).Idx).along (1 : Fin 2) (order (fun e => v (ix2 r e)) k)) = _
  rw [hal]
  rfl

/-- A gather of single elements along the second axis, row by row. -/
abbrev rowGather (R N C : Nat) (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- It reads the operand, in the result's row, at the start index read signed and clamped into the row. -/
theorem rowGather_apply {R N C : Nat} {α : Type} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ 32) (r : Fin R) (k : Fin C) :
    Host.gather (rowGather R N C wf) x idx (ix2 r k)
      = x (ix2 r ⟨min (idx (ix3 r k 0)).toInt.toNat (N - 1), by omega⟩) := by
  unfold Host.gather
  congr 1
  have hoff : ∀ a, (rowGather R N C wf).offCoord (ix2 r k) a = 0 := fun a =>
    GatherDims.offCoord_eq_zero _ _ _ (fun h => by
      have := (GatherDims.mem_sKept _ _).mp h
      fin_cases a
      · exact this.2 (List.mem_singleton.mpr rfl)
      · exact this.1 (List.mem_singleton.mpr rfl))
  funext a
  refine Fin.ext ?_
  show (rowGather R N C wf).start (ix2 r k) idx a + (rowGather R N C wf).batchCoord (ix2 r k) a
    + (rowGather R N C wf).offCoord (ix2 r k) a = _
  rw [hoff, Nat.add_zero]
  fin_cases a
  · show (rowGather R N C wf).start (ix2 r k) idx 0 + (rowGather R N C wf).batchCoord (ix2 r k) 0 = r.val
    rw [GatherDims.start_batching _ _ _ _ (List.mem_singleton.mpr rfl), Nat.zero_add]
    unfold GatherDims.batchCoord
    rw [dif_pos (show (0 : Fin 2) ∈ (rowGather R N C wf).operandBatchingDims from List.mem_singleton.mpr rfl)]
    rfl
  · show (rowGather R N C wf).start (ix2 r k) idx 1 + (rowGather R N C wf).batchCoord (ix2 r k) 1
      = min (idx (ix3 r k 0)).toInt.toNat (N - 1)
    rw [GatherDims.batchCoord_eq_zero _ _ _ (show (1 : Fin 2) ∉ (rowGather R N C wf).operandBatchingDims from
      fun h => (Fin.zero_ne_one (n := 0)) (List.mem_singleton.mp h).symm), Nat.add_zero]
    unfold GatherDims.start
    rw [dif_pos (show (1 : Fin 2) ∈ (rowGather R N C wf).startIndexMap from List.mem_singleton.mpr rfl)]
    have hsi : (rowGather R N C wf).siIdx (ix2 r k) ⟨List.idxOf (1 : Fin 2) (rowGather R N C wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl

/-- A maximum over two columns. -/
theorem fold_two (b : EReal) (f : Fin 2 → EReal) : Finset.univ.fold max b f = max (f 0) (max (f 1) b) := rfl

/-- A conjunction over one element. -/
theorem fold_one (b : BitVec 1) (f : Fin 1 → BitVec 1) : Finset.univ.fold IntOp.andi b f = IntOp.andi (f 0) b := rfl

/-- The word of a column is unchanged by the wrap of negative indices. -/
theorem wrap_column (e : Fin 4) :
    Scalar.select (IntOp.cmpi .slt (BitVec.ofNat 32 e.val) 0#32) (BitVec.ofNat 32 e.val + 4#32) (BitVec.ofNat 32 e.val)
      = BitVec.ofNat 32 e.val := by
  fin_cases e <;> decide

/-- The word of a column passes the range check. -/
theorem column_in_range (e : Fin 4) :
    IntOp.andi (IntOp.cmpi .sge (BitVec.ofNat 32 e.val) 0#32) (IntOp.cmpi .sle (BitVec.ofNat 32 e.val) 3#32) = 1#1 := by
  fin_cases e <;> decide

/-- A selection where a column's word equals another's. -/
theorem select_column (e n : Fin 4) (a b : EReal) :
    Scalar.select (IntOp.cmpi .eq (BitVec.ofNat 32 e.val) (BitVec.ofNat 32 n.val)) a b = if e = n then a else b := by
  fin_cases e <;> fin_cases n <;> rfl

/-- The word of a column, read signed and clamped, is the column. -/
theorem column_clamped (e : Fin 4) : min (BitVec.ofNat 32 e.val).toInt.toNat (4 - 1) = e.val := by
  fin_cases e <;> decide

end Cert.Routing
end
-- ==== Proof.Value.Reference.lean ====
/-
  The reference's result, element by element: over the two places of the sorted row and the four experts, the expert's
  output times the softmax of that place's gate where the expert stands at that place.
-/
module

public import proofs.«01_k».proof.Proof.Value.Argsort
public import proofs.«01_k».proof.Proof.Gen.ReferenceIdeal
public import proofs.«01_k».proof.Proof.Gen.ReferenceIdeal.Run
public import Idealize.ShloMosaic.Lib.Pointwise
public import Idealize.ShloMosaic.Lib.SortFacts

@[expose] public section

noncomputable section

namespace Cert.ReferenceIdeal.Value

open Idealize.ShloMosaic Idealize.SL.Sem
open Cert.ReferenceIdeal.Gen Cert.Routing

/-- The sort's comparator on gates: the negated gates in increasing order, the carried column unread. -/
theorem comparator_lt (x y : EReal) (a b : BitVec 32) :
    (comparator_f32_i32_d1 (F := Ideal) (x, a) (y, b) == 1#1) = decide (x < y) := by
  pointwise [comparator_f32_i32_d1]
  have hz : ∀ t : EReal, (if t ≠ t then Ideal.ofBits FTy.f32 2143289344#32 else if t = 0 then 0 else t) = t := fun t => by
    rw [if_neg (not_not.mpr rfl)]
    split
    · next h => exact h.symm
    · rfl
  rw [hz, hz]
  show (BitVec.ofBool (decide (x < y)) == 1#1) = decide (x < y)
  cases decide (x < y) <;> rfl

/-- The range-checked gather along a row, at indices that are columns. -/
theorem take_apply (x : FVec Ideal S512x4 .f32) (i : IVec S512x2x1 32) (r : Fin 512) (k : Fin 2) (e : Fin 4)
    (hi : i (ix3 r k 0) = BitVec.ofNat 32 e.val) :
    (select (Host.reduce IntOp.andi (andi (cmpi .sge i (broadcastInDim S512x2x1 ![] bcast_S_S512x2x1 (constantI S_ 32 0#32)))
        (cmpi .sle i (broadcastInDim S512x2x1 ![0, 1, 2] bcast_S1x1x1_S512x2x1_0_1_2
          (broadcastInDim S1x1x1 ![2] bcast_S1_S1x1x1_2 (constantI S1 32 3#32))))) (constantI S_ 1 1#1)
        reducesTo_S512x2x1_S512x2_d2 h_S_)
      (Host.gather gather_S512x4_S512x2x1_S512x2_n_1_0_0_1_2_11 x i)
      (broadcastInDim S512x2 ![] bcast_S_S512x2 (constant (F := Ideal) S_ .f32 0x7FC00000#32))) (ix2 r k) = x (ix2 r e) := by
  have hg : Host.gather gather_S512x4_S512x2x1_S512x2_n_1_0_0_1_2_11 x i (ix2 r k) = x (ix2 r e) := by
    refine (rowGather_apply (by decide) _ _ _ r k).trans (congrArg (fun c => x (ix2 r c)) (Fin.ext ?_))
    simp only [hi]
    exact column_clamped e
  pointwise
  rw [fold_one, hi, column_in_range, hg]
  rfl

/-- The softmax of the two columns of a row, read at a column. -/
theorem softmax_apply (v : FVec Ideal S512x2 .f32) (e : FVec Ideal S512x2 .f32)
    (he : e = Host.exp (subf v (broadcastInDim S512x2 ![0, 1] bcast_S512x1_S512x2_0_1 (broadcastInDim S512x1 ![0]
      bcast_S512_S512x1_0 (Host.reduce FloatOps.maximumf v (constant S_ .f32 0xFF800000#32) reducesTo_S512x2_S512_d1 h_S_)))))
    (r : Fin 512) (k : Fin 2) :
    (Host.divf e (broadcastInDim S512x2 ![0, 1] bcast_S512x1_S512x2_0_1 (broadcastInDim S512x1 ![0] bcast_S512_S512x1_0
      (Host.reduceAdd e (constant S_ .f32 0x00000000#32) reducesTo_S512x2_S512_d1 h_S_)))) (ix2 r k)
      = soft (v (ix2 r 0)) (v (ix2 r 1)) (v (ix2 r k)) := by
  subst he
  pointwise
  rw [fold_two]
  have hb : Ideal.ofBits FTy.f32 4286578688#32 = ⊥ := by simp [Ideal.ofBits, Ideal.ieee]
  rw [hb, max_eq_left (bot_le : (⊥ : EReal) ≤ v (ix2 r 1)), Fin.sum_univ_two]
  rfl

variable (V : (d : DevRef τ sig) → d.ty.Contents (Elt Ideal))

/-- The four arguments as arrays. -/
abbrev inputs : S512x512.Idx → EReal := V (Proc.devRef .tc main_arg0)
abbrev router : S512x4.Idx → EReal := V (Proc.devRef .tc main_arg1)
abbrev first : S4x512x1024.Idx → EReal := V (Proc.devRef .tc main_arg2)
abbrev last : S4x1024x512.Idx → EReal := V (Proc.devRef .tc main_arg3)

/-- Row `r`'s gates. -/
abbrev gates (r : Fin 512) : Fin 4 → EReal := gate (inputs V) (router V) r

/-- The gates. -/
theorem v0_apply (r : Fin 512) (e : Fin 4) : res_main_v0 V (ix2 r e) = gates V r e := by
  pointwise [res_main_v0, gate]

/-- The two columns kept of the argsort. -/
theorem v3_apply (r : Fin 512) (k : Fin 2) :
    res_main_v3 V (ix2 r k) = BitVec.ofNat 32 (order (gates V r) (Fin.castLE (by decide) k)).val := by
  have h := sort_columns (comparator_f32_i32_d1 (F := Ideal)) comparator_lt (res_main_v0 V) r (Fin.castLE (by decide) k)
  have e : (fun e => res_main_v0 V (ix2 r e)) = gates V r := funext fun e => v0_apply V r e
  rw [e] at h
  have e' : res_main_v1 V = fun i => -(show EReal from res_main_v0 V i) := rfl
  pointwise [res_main_v3]
  rw [e']
  exact h

/-- The gather's indices. -/
theorem indices_apply (r : Fin 512) (k : Fin 2) :
    res_main_call1_v5 V (ix3 r k 0) = BitVec.ofNat 32 (order (gates V r) (Fin.castLE (by decide) k)).val := by
  pointwise [res_main_call1_v5]
  rw [v3_apply]
  exact wrap_column _

/-- The gates gathered. -/
theorem v4_apply (r : Fin 512) (k : Fin 2) :
    res_main_v4 V (ix2 r k) = gates V r (order (gates V r) (Fin.castLE (by decide) k)) :=
  (take_apply (res_main_v0 V) (res_main_call1_v5 V) r k _ (indices_apply V r k)).trans (v0_apply V r _)

/-- The softmax of the gathered gates. -/
theorem v13_apply (r : Fin 512) (k : Fin 2) :
    res_main_v13 V (ix2 r k) = soft (gates V r (order (gates V r) 0)) (gates V r (order (gates V r) 1))
      (gates V r (order (gates V r) (Fin.castLE (by decide) k))) := by
  refine (softmax_apply (res_main_v4 V) (res_main_v9 V) rfl r k).trans ?_
  rw [v4_apply, v4_apply, v4_apply]
  rfl

/-- The reference's result at row `r` and column `j`. -/
theorem out_apply (r j : Fin 512) :
    res_main_v142 V (ix2 r j) = routed (order (gates V r))
      ![soft (gates V r (order (gates V r) 0)) (gates V r (order (gates V r) 1)) (gates V r (order (gates V r) 0)),
        soft (gates V r (order (gates V r) 0)) (gates V r (order (gates V r) 1)) (gates V r (order (gates V r) 1))]
      (expertOut (inputs V) (first V) (last V) r j) := by
  have hs : ∀ (n : Fin 4) (w : BitVec 32) (_ : w = BitVec.ofNat 32 n.val) (e : Fin 4) (a : EReal),
      Scalar.select (IntOp.cmpi .eq (BitVec.ofNat 32 e.val) w) a (id (constant (F := Ideal) S_ FTy.f32 0#32) ix0)
        = if e = n then a else 0 := by
    rintro n w rfl e a
    rw [select_column]
    have hz : (id (constant (F := Ideal) S_ FTy.f32 0#32) ix0 : EReal) = 0 := by
      show Ideal.ofBits FTy.f32 0#32 = 0
      simp [Ideal.ofBits, Ideal.ieee]
    rw [hz]
  have h : (res_main_v78 V (ix2 r j) : EReal) = (((if order (gates V r) 0 = 0 then expertOut (inputs V) (first V) (last V) r j 0
        * soft (gates V r (order (gates V r) 0)) (gates V r (order (gates V r) 1)) (gates V r (order (gates V r) 0)) else 0)
      + (if order (gates V r) 0 = 1 then expertOut (inputs V) (first V) (last V) r j 1
        * soft (gates V r (order (gates V r) 0)) (gates V r (order (gates V r) 1)) (gates V r (order (gates V r) 0)) else 0))
      + (if order (gates V r) 0 = 2 then expertOut (inputs V) (first V) (last V) r j 2
        * soft (gates V r (order (gates V r) 0)) (gates V r (order (gates V r) 1)) (gates V r (order (gates V r) 0)) else 0))
      + (if order (gates V r) 0 = 3 then expertOut (inputs V) (first V) (last V) r j 3
        * soft (gates V r (order (gates V r) 0)) (gates V r (order (gates V r) 1)) (gates V r (order (gates V r) 0)) else 0) := by
    pointwise [res_main_v78]
    rw [v3_apply, v13_apply]
    exact congrArg₂ (· + ·) (congrArg₂ (· + ·) (congrArg₂ (· + ·) (hs 0 _ rfl _ _) (hs 1 _ rfl _ _)) (hs 2 _ rfl _ _)) (hs 3 _ rfl _ _)
  pointwise [res_main_v142]
  rw [h, v3_apply, v13_apply]
  exact congrArg₂ (· + ·) (congrArg₂ (· + ·) (congrArg₂ (· + ·) (congrArg₂ (· + ·) rfl (hs 0 _ rfl _ _)) (hs 1 _ rfl _ _))
    (hs 2 _ rfl _ _)) (hs 3 _ rfl _ _)

end Cert.ReferenceIdeal.Value
end
-- ==== Proof.Value.Mask.lean ====
/-
  What the mask says of a row: the three greatest gates differ, and the greatest isn't plus infinity.
-/
module

public import proofs.«01_k».proof.Proof.Value.Reference
public import proofs.«01_k».proof.Proof.Gen.On_top_gates_differ
public import Idealize.ShloMosaic.Lib.Pointwise

@[expose] public section

noncomputable section

namespace Cert.On_top_gates_differ

open Idealize.ShloMosaic Idealize.SL.Sem
open Cert.On_top_gates_differ.Gen Cert.Routing

/-- The sort's comparator on gates: the negated gates in increasing order, the carried column unread. -/
theorem comparator_lt (x y : EReal) (a b : BitVec 32) :
    (comparator_f32_i32_d1 (F := Ideal) (x, a) (y, b) == 1#1) = decide (x < y) :=
  Cert.ReferenceIdeal.Value.comparator_lt x y a b

/-- The range-checked gather along a row, at indices that are columns. -/
theorem take_apply (x : FVec Ideal S512x4 .f32) (i : IVec S512x3 32) (r : Fin 512) (k : Fin 3) (e : Fin 4)
    (hi : i (ix2 r k) = BitVec.ofNat 32 e.val) : fn_take_along_axis x i (ix2 r k) = x (ix2 r e) := by
  unfold fn_take_along_axis
  set i' : IVec S512x3x1 32 := shapeCast S512x3x1 (select (cmpi .slt i (broadcastInDim S512x3 ![] bcast_S_S512x3 (constantI S_ 32 0#32)))
    (addi i (broadcastInDim S512x3 ![] bcast_S_S512x3 (constantI S_ 32 4#32))) i) shapeCasts_S512x3_S512x3x1 with hi'
  have h' : i' (ix3 r k 0) = BitVec.ofNat 32 e.val := by
    rw [hi']
    pointwise
    rw [hi]
    exact wrap_column e
  have hg : Host.gather gather_S512x4_S512x3x1_S512x3_n_1_0_0_1_2_11 x i' (ix2 r k) = x (ix2 r e) := by
    refine (rowGather_apply (by decide) _ _ _ r k).trans (congrArg (fun c => x (ix2 r c)) (Fin.ext ?_))
    simp only [h']
    exact column_clamped e
  pointwise
  rw [fold_one, h', column_in_range, hg]
  rfl

/-- The sorted columns of a row. -/
theorem argsort_apply (x : FVec Ideal S512x4 .f32) (r : Fin 512) (k : Fin 4) :
    fn_argsort (Host.negf x) (ix2 r k) = BitVec.ofNat 32 (order (fun e => x (ix2 r e)) k).val :=
  sort_columns (comparator_f32_i32_d1 (F := Ideal)) comparator_lt x r k

/-- The three comparisons of the mask, read. -/
theorem and_three (a b c : EReal) (h : IntOp.andi (IntOp.andi (BitVec.ofBool (decide (a < Ideal.ofBits .f32 2139095040#32)))
    (BitVec.ofBool (decide (b < a)))) (BitVec.ofBool (decide (c < b))) = 1#1) : a < ⊤ ∧ b < a ∧ c < b := by
  have ht : Ideal.ofBits .f32 2139095040#32 = ⊤ := by simp [Ideal.ofBits, Ideal.ieee]
  rw [ht] at h
  by_cases h1 : a < ⊤ <;> by_cases h2 : b < a <;> by_cases h3 : c < b <;> simp [h1, h2, h3, IntOp.andi] at h ⊢

/-- A row the mask keeps is sorted as the routing needs. -/
theorem sorted_of_mask (x : FVec Ideal S512x512 .f32) (w : FVec Ideal S512x4 .f32) (u : FVec Ideal S4x512x1024 .f32)
    (v : FVec Ideal S4x1024x512 .f32) (r j : Fin 512) (h : fn x w u v (ix2 r j) = 1#1) :
    Sorted (gate x w r) (order (gate x w r)) := by
  have hg : ∀ e, (Host.dotGeneral dot_S512x512_S512x4_S512x4_1_0_0_1_n_n none x w : FVec Ideal S512x4 .f32) (ix2 r e) = gate x w r e := by
    intro e
    pointwise [gate]
  have ht : ∀ g : FVec Ideal S512x4 .f32, (∀ e, g (ix2 r e) = gate x w r e) → ∀ k : Fin 3,
      gate x w r (order (gate x w r) (Fin.castLE (by decide) k)) = fn_take_along_axis g
        (extractStridedSlice S512x3 ![0, 0] (fn_argsort (Host.negf g)) slices_S512x4_S512x3_0_0) (ix2 r k) := fun g hg k => by
    have hf : (fun e => g (ix2 r e)) = gate x w r := funext hg
    rw [← hg, ← hf]
    refine (take_apply g _ r k _ ?_).symm
    rw [← argsort_apply]
    pointwise
    rfl
  unfold fn at h
  pointwise at h
  obtain ⟨h1, h2, h3⟩ := and_three _ _ _ h
  have e0 := ht _ hg 0
  have e1 := ht _ hg 1
  have e2 := ht _ hg 2
  exact
    { inj := order_injective _
      lt_top := lt_of_eq_of_lt e0 h1
      lt_first := lt_of_eq_of_lt e1 (lt_of_lt_of_eq h2 e0.symm)
      lt_second := lt_of_eq_of_lt e2 (lt_of_lt_of_eq h3 e1.symm)
      le_third := order_antitone _ 2 3 (by decide) }

end Cert.On_top_gates_differ
end
-- ==== Proof.Value.Algebraic.lean ====
/-
  The kernel's result on a device is its block of the reference's.

  A device whose second mesh coordinate is `y` holds rows `256y …` of the inputs and of the result, columns `2y, 2y + 1`
  of the router and those two experts; its peer holds the others. So the device's sum over its own and its peer's
  experts is the routing's sum over all four, in one of the two orders.
-/
module

public import proofs.«01_k».proof.Defs
public import proofs.«01_k».proof.Proof.Value.Kernel
public import proofs.«01_k».proof.Proof.Value.Reference
public import proofs.«01_k».proof.Proof.Value.Mask
public import Idealize.ShloMosaic.Lib.Layout

@[expose] public section

noncomputable section

namespace Cert.Proof

open Idealize.ShloMosaic Idealize.SL.Sem
open Cert.KernelIdeal.Run Cert.Routing

/-- The whole array's row that device `c` holds as its row `i`. -/
def row (c : Fin 16) (i : Fin 256) : Fin 512 := ⟨c.val / 4 % 2 * 256 + i.val, by omega⟩

/-- The expert that device `c` holds as its expert `e`. -/
def half (c : Fin 16) (e : Fin 2) : Fin 4 := ⟨c.val / 4 % 2 * 2 + e.val, by omega⟩

theorem meshLin_eq (c : Fin 16) : Layout.meshLin [2, 2, 4] c.val [1] = c.val / 4 % 2 := by revert c; decide

/-! Where an entry of a device's block stands in the whole array. -/

theorem block_rows {α : Type} (c : Fin 16) (v : (⟨2, ![512, 512]⟩ : Shape).Idx → α) (i : Fin 256) (k : Fin 512) :
    (Layout.blockN ⟨2, ![256, 512]⟩ ⟨2, ![512, 512]⟩ (Layout.meshBlock [2, 2, 4] ![[1], []] c) v) (ix2 i k) = v (ix2 (row c i) k) := by
  refine congrArg v (funext fun a => Fin.ext ?_)
  fin_cases a
  · show Layout.meshLin [2, 2, 4] c.val [1] * 256 + i.val = c.val / 4 % 2 * 256 + i.val
    rw [meshLin_eq]
  · show 0 * 512 + k.val = k.val
    omega

theorem block_columns (c : Fin 16) (v : (⟨2, ![512, 4]⟩ : Shape).Idx → EReal) (k : Fin 512) (e : Fin 2) :
    (Layout.blockN ⟨2, ![512, 2]⟩ ⟨2, ![512, 4]⟩ (Layout.meshBlock [2, 2, 4] ![[], [1]] c) v) (ix2 k e) = v (ix2 k (half c e)) := by
  refine congrArg v (funext fun a => Fin.ext ?_)
  fin_cases a
  · show 0 * 512 + k.val = k.val
    omega
  · show Layout.meshLin [2, 2, 4] c.val [1] * 2 + e.val = c.val / 4 % 2 * 2 + e.val
    rw [meshLin_eq]

theorem block_first (c : Fin 16) (v : (⟨3, ![4, 512, 1024]⟩ : Shape).Idx → EReal) (e : Fin 2) (k : Fin 512) (f : Fin 1024) :
    (Layout.blockN ⟨3, ![2, 512, 1024]⟩ ⟨3, ![4, 512, 1024]⟩ (Layout.meshBlock [2, 2, 4] ![[1], [], []] c) v) (ix3 e k f)
      = v (ix3 (half c e) k f) := by
  refine congrArg v (funext fun a => Fin.ext ?_)
  fin_cases a
  · show Layout.meshLin [2, 2, 4] c.val [1] * 2 + e.val = c.val / 4 % 2 * 2 + e.val
    rw [meshLin_eq]
  · show 0 * 512 + k.val = k.val
    omega
  · show 0 * 1024 + f.val = f.val
    omega

theorem block_last (c : Fin 16) (v : (⟨3, ![4, 1024, 512]⟩ : Shape).Idx → EReal) (e : Fin 2) (f : Fin 1024) (j : Fin 512) :
    (Layout.blockN ⟨3, ![2, 1024, 512]⟩ ⟨3, ![4, 1024, 512]⟩ (Layout.meshBlock [2, 2, 4] ![[1], [], []] c) v) (ix3 e f j)
      = v (ix3 (half c e) f j) := by
  refine congrArg v (funext fun a => Fin.ext ?_)
  fin_cases a
  · show Layout.meshLin [2, 2, 4] c.val [1] * 2 + e.val = c.val / 4 % 2 * 2 + e.val
    rw [meshLin_eq]
  · show 0 * 1024 + f.val = f.val
    omega
  · show 0 * 512 + j.val = j.val
    omega

section
variable {m : (ℓ : Loc Cert.KernelIdeal.nD Cert.KernelIdeal.τ Cert.KernelIdeal.sig) → Buf (Elt Ideal) ℓ}
  {x : (⟨2, ![512, 512]⟩ : Shape).Idx → EReal} {w : (⟨2, ![512, 4]⟩ : Shape).Idx → EReal}
  {u : (⟨3, ![4, 512, 1024]⟩ : Shape).Idx → EReal} {v : (⟨3, ![4, 1024, 512]⟩ : Shape).Idx → EReal}

/-- A device's gate is the whole arrays' gate of that row and expert. -/
theorem gateOf_eq (hx : ∀ c, X m c = Layout.blockN ⟨2, ![256, 512]⟩ ⟨2, ![512, 512]⟩ (Layout.meshBlock [2, 2, 4] ![[1], []] c) x)
    (hw : ∀ c, R m c = Layout.blockN ⟨2, ![512, 2]⟩ ⟨2, ![512, 4]⟩ (Layout.meshBlock [2, 2, 4] ![[], [1]] c) w)
    (c d : Fin 16) (e : Fin 2) (i : Fin 256) : gateOf m c d e i = Routing.gate x w (row c i) (half d e) := by
  unfold gateOf Routing.gate
  refine Finset.sum_congr rfl fun k _ => ?_
  rw [hx, hw, block_rows, block_columns]

/-- A device's expert is the whole arrays' expert on that row. -/
theorem expert_eq (hx : ∀ c, X m c = Layout.blockN ⟨2, ![256, 512]⟩ ⟨2, ![512, 512]⟩ (Layout.meshBlock [2, 2, 4] ![[1], []] c) x)
    (hu : ∀ c, U m c = Layout.blockN ⟨3, ![2, 512, 1024]⟩ ⟨3, ![4, 512, 1024]⟩ (Layout.meshBlock [2, 2, 4] ![[1], [], []] c) u)
    (hv : ∀ c, V m c = Layout.blockN ⟨3, ![2, 1024, 512]⟩ ⟨3, ![4, 1024, 512]⟩ (Layout.meshBlock [2, 2, 4] ![[1], [], []] c) v)
    (c d : Fin 16) (e : Fin 2) (i : Fin 256) (j : Fin 512) :
    expert m c d e i j = expertOut x u v (row c i) j (half d e) := by
  unfold expert expertOut
  refine Finset.sum_congr rfl fun f _ => ?_
  rw [hv, block_last]
  refine congrArg (fun t => max t 0 * _) (Finset.sum_congr rfl fun k _ => ?_)
  rw [hx, hu, block_rows, block_first]

/-- A device's own experts and its peer's are the first two and the last two, or the other way round. -/
theorem halves (c : Fin 16) :
    (half c 0 = 0 ∧ half c 1 = 1 ∧ half (Cert.KernelIdeal.Run.peer c) 0 = 2 ∧ half (Cert.KernelIdeal.Run.peer c) 1 = 3)
      ∨ (half c 0 = 2 ∧ half c 1 = 3 ∧ half (Cert.KernelIdeal.Run.peer c) 0 = 0 ∧ half (Cert.KernelIdeal.Run.peer c) 1 = 1) := by
  revert c; decide

/-- On a row sorted as the routing needs, a device's result is the routed sum of the whole arrays. -/
theorem out_eq (ρ : Dev Cert.KernelIdeal.nD → PrngReg)
    (hx : ∀ c, X m c = Layout.blockN ⟨2, ![256, 512]⟩ ⟨2, ![512, 512]⟩ (Layout.meshBlock [2, 2, 4] ![[1], []] c) x)
    (hw : ∀ c, R m c = Layout.blockN ⟨2, ![512, 2]⟩ ⟨2, ![512, 4]⟩ (Layout.meshBlock [2, 2, 4] ![[], [1]] c) w)
    (hu : ∀ c, U m c = Layout.blockN ⟨3, ![2, 512, 1024]⟩ ⟨3, ![4, 512, 1024]⟩ (Layout.meshBlock [2, 2, 4] ![[1], [], []] c) u)
    (hv : ∀ c, V m c = Layout.blockN ⟨3, ![2, 1024, 512]⟩ ⟨3, ![4, 1024, 512]⟩ (Layout.meshBlock [2, 2, 4] ![[1], [], []] c) v)
    (c : Fin 16) (i : Fin 256) (j : Fin 512) {σ : Fin 4 → Fin 4} (h : Sorted (Routing.gate x w (row c i)) σ) :
    outAt m ρ c (ix2 i j) = routed σ
      ![soft (Routing.gate x w (row c i) (σ 0)) (Routing.gate x w (row c i) (σ 1)) (Routing.gate x w (row c i) (σ 0)),
        soft (Routing.gate x w (row c i) (σ 0)) (Routing.gate x w (row c i) (σ 1)) (Routing.gate x w (row c i) (σ 1))]
      (expertOut x u v (row c i) j) := by
  refine (outAt_apply m ρ c i j).trans ?_
  rw [← h.sum]
  unfold weightOf
  simp only [gateOf_eq hx hw, expert_eq hx hu hv]
  rcases halves c with ⟨h0, h1, h2, h3⟩ | ⟨h0, h1, h2, h3⟩
  · rw [h0, h1, h2, h3]
  · rw [h0, h1, h2, h3]
    simp only [weight_swap (Routing.gate x w (row c i) 0)]
    exact add_comm (G := EReal) _ _

end

/-- On the rows whose three greatest gates differ, the greatest below plus infinity, every device's result is its block
    of the reference's. -/
theorem algebraic : Cert.algebraic_KernelIdeal_ReferenceIdeal_on_top_gates_differ := fun m ρ m' ρ' _ hm => by
  refine ⟨Cert.ReferenceIdeal.Value.res_main_v142 (StableHlo.launchContents m' 0), ?_, ?_⟩
  · refine (θ_run Cert.KernelIdeal.defs _ _).mono (fun r h c => ⟨fun i hi => ?_, ((h.1 c).1 (0 : Fin 3)).trans (finalA_x m ρ c),
      ((h.1 c).1 (1 : Fin 3)).trans (finalA_r m ρ c), (h.1 c).2⟩) (run_main (F := Ideal) m ρ)
    have hout : r.2.mem ((c.tc : Thread Cert.KernelIdeal.nD Cert.KernelIdeal.τ).loc Cert.KernelIdeal.main_v1) = outAt m ρ c :=
      ((h.1 c).1 (2 : Fin 3)).trans (finalA_out m ρ c)
    obtain ⟨a, b, rfl⟩ : ∃ (a : Fin 256) (b : Fin 512), i = ix2 a b := ⟨i 0, i 1, by funext k; fin_cases k <;> rfl⟩
    rw [block_rows] at hi
    have hs := Cert.On_top_gates_differ.sorted_of_mask _ _ _ _ _ _ hi
    rw [hout]
    refine (out_eq ρ (fun c => (hm c).1) (fun c => (hm c).2.1) (fun c => (hm c).2.2.1) (fun c => (hm c).2.2.2) c a b hs).trans ?_
    exact (Cert.ReferenceIdeal.Value.out_apply (StableHlo.launchContents m' 0) (row c a) b).symm.trans (block_rows c _ a b).symm
  · exact (θ_run Cert.ReferenceIdeal.defs _ _).mono (fun r h => ⟨fun i _ => congrFun (h 0).1 i, (h 0).2⟩)
      (Cert.ReferenceIdeal.Value.run (F := Ideal) m' ρ')

end Cert.Proof
end
-- ==== Proof.lean ====
/-
  The proof of `Cert.Claim`: the three frames and the named constant (`Proof.Frames`), and the value claim
  (`Proof.Value.Algebraic`). The witnesses of the programs' stated facts come first.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.On_top_gates_differ
public import proofs.«01_k».proof.Proof.Gen.ReferenceIdeal
public import proofs.«01_k».proof.Proof.Gen.ReferenceIdeal.Run
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.On_top_gates_differ.Gen.facts,
    frame_kernel, frame_kernelIdeal, frame_reference, preserves, algebraic⟩

end Cert.Proof

end
